-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Ca (m : (ℓ : Loc Cert.Ca.nD Cert.Ca.τ Cert.Ca.sig) → Buf (Elt Bits) ℓ) : Prop :=
  True

def Pre_CaIdeal (m : (ℓ : Loc Cert.CaIdeal.nD Cert.CaIdeal.τ Cert.CaIdeal.sig) → Buf (Elt Ideal) ℓ) : Prop :=
  True

def Pre_CaIdeal_finite [hPre_finite : Cert.Pre_finite.Facts] (m : (ℓ : Loc Cert.CaIdeal.nD Cert.CaIdeal.τ Cert.CaIdeal.sig) → Buf (Elt Ideal) ℓ) : Prop :=
  ∀ c : Dev Cert.CaIdeal.nD,
    (Cert.Pre_finite.fn (F := Ideal) (m ((c.tc : Thread Cert.CaIdeal.nD Cert.CaIdeal.τ).loc Cert.CaIdeal.main_arg0)) (m ((c.tc : Thread Cert.CaIdeal.nD Cert.CaIdeal.τ).loc Cert.CaIdeal.main_arg1))).1 = (fun _ => 1#1)
    ∧ (Cert.Pre_finite.fn (F := Ideal) (m ((c.tc : Thread Cert.CaIdeal.nD Cert.CaIdeal.τ).loc Cert.CaIdeal.main_arg0)) (m ((c.tc : Thread Cert.CaIdeal.nD Cert.CaIdeal.τ).loc Cert.CaIdeal.main_arg1))).2 = (fun _ => 1#1)

def Pre_CaRefIdeal (m : (ℓ : Loc Cert.CaRefIdeal.nD Cert.CaRefIdeal.τ Cert.CaRefIdeal.sig) → Buf (Elt Ideal) ℓ) : Prop :=
  True

def Pre_CaRefIdeal_finite [hPre_finite : Cert.Pre_finite.Facts] (m : (ℓ : Loc Cert.CaRefIdeal.nD Cert.CaRefIdeal.τ Cert.CaRefIdeal.sig) → Buf (Elt Ideal) ℓ) : Prop :=
  ∀ c : Dev Cert.CaRefIdeal.nD,
    (Cert.Pre_finite.fn (F := Ideal) (m ((c.tc : Thread Cert.CaRefIdeal.nD Cert.CaRefIdeal.τ).loc Cert.CaRefIdeal.main_arg0)) (m ((c.tc : Thread Cert.CaRefIdeal.nD Cert.CaRefIdeal.τ).loc Cert.CaRefIdeal.main_arg1))).1 = (fun _ => 1#1)
    ∧ (Cert.Pre_finite.fn (F := Ideal) (m ((c.tc : Thread Cert.CaRefIdeal.nD Cert.CaRefIdeal.τ).loc Cert.CaRefIdeal.main_arg0)) (m ((c.tc : Thread Cert.CaRefIdeal.nD Cert.CaRefIdeal.τ).loc Cert.CaRefIdeal.main_arg1))).2 = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Ca [hCa : Cert.Ca.Facts] : Prop :=
  ∀ (m : (ℓ : Loc Cert.Ca.nD Cert.Ca.τ Cert.Ca.sig) → Buf (Elt Bits) ℓ) (g : Dev Cert.Ca.nD → PrngReg), Pre_Ca m →
    θ_run (Cert.Ca.defs (F := Bits)) (onTc (τ := Cert.Ca.τ) (Cert.Ca.main (F := Bits))) ⟨m, fun _ => 0, g⟩ (fun r => (∀ c : Dev Cert.Ca.nD,
      r.2.mem ((c.tc : Thread Cert.Ca.nD Cert.Ca.τ).loc Cert.Ca.main_arg0) = m ((c.tc : Thread Cert.Ca.nD Cert.Ca.τ).loc Cert.Ca.main_arg0)
      ∧ r.2.mem ((c.tc : Thread Cert.Ca.nD Cert.Ca.τ).loc Cert.Ca.main_arg1) = m ((c.tc : Thread Cert.Ca.nD Cert.Ca.τ).loc Cert.Ca.main_arg1))
      ∧ r.2.sem = fun _ => 0)

def quiescent_CaIdeal [hCaIdeal : Cert.CaIdeal.Facts] : Prop :=
  ∀ (m : (ℓ : Loc Cert.CaIdeal.nD Cert.CaIdeal.τ Cert.CaIdeal.sig) → Buf (Elt Ideal) ℓ) (g : Dev Cert.CaIdeal.nD → PrngReg), Pre_CaIdeal m →
    θ_run (Cert.CaIdeal.defs (F := Ideal)) (onTc (τ := Cert.CaIdeal.τ) (Cert.CaIdeal.main (F := Ideal))) ⟨m, fun _ => 0, g⟩ (fun r => (∀ c : Dev Cert.CaIdeal.nD,
      r.2.mem ((c.tc : Thread Cert.CaIdeal.nD Cert.CaIdeal.τ).loc Cert.CaIdeal.main_arg0) = m ((c.tc : Thread Cert.CaIdeal.nD Cert.CaIdeal.τ).loc Cert.CaIdeal.main_arg0)
      ∧ r.2.mem ((c.tc : Thread Cert.CaIdeal.nD Cert.CaIdeal.τ).loc Cert.CaIdeal.main_arg1) = m ((c.tc : Thread Cert.CaIdeal.nD Cert.CaIdeal.τ).loc Cert.CaIdeal.main_arg1))
      ∧ r.2.sem = fun _ => 0)

def quiescent_CaIdeal_pre_finite [hCaIdeal : Cert.CaIdeal.Facts] [hPre_finite : Cert.Pre_finite.Facts] : Prop :=
  ∀ (m : (ℓ : Loc Cert.CaIdeal.nD Cert.CaIdeal.τ Cert.CaIdeal.sig) → Buf (Elt Ideal) ℓ) (g : Dev Cert.CaIdeal.nD → PrngReg), Pre_CaIdeal_finite m →
    θ_run (Cert.CaIdeal.defs (F := Ideal)) (onTc (τ := Cert.CaIdeal.τ) (Cert.CaIdeal.main (F := Ideal))) ⟨m, fun _ => 0, g⟩ (fun r => (∀ c : Dev Cert.CaIdeal.nD,
      r.2.mem ((c.tc : Thread Cert.CaIdeal.nD Cert.CaIdeal.τ).loc Cert.CaIdeal.main_arg0) = m ((c.tc : Thread Cert.CaIdeal.nD Cert.CaIdeal.τ).loc Cert.CaIdeal.main_arg0)
      ∧ r.2.mem ((c.tc : Thread Cert.CaIdeal.nD Cert.CaIdeal.τ).loc Cert.CaIdeal.main_arg1) = m ((c.tc : Thread Cert.CaIdeal.nD Cert.CaIdeal.τ).loc Cert.CaIdeal.main_arg1))
      ∧ r.2.sem = fun _ => 0)

def quiescent_CaRefIdeal [hCaRefIdeal : Cert.CaRefIdeal.Facts] : Prop :=
  ∀ (m : (ℓ : Loc Cert.CaRefIdeal.nD Cert.CaRefIdeal.τ Cert.CaRefIdeal.sig) → Buf (Elt Ideal) ℓ) (g : Dev Cert.CaRefIdeal.nD → PrngReg), Pre_CaRefIdeal m →
    θ_run (Cert.CaRefIdeal.defs (F := Ideal)) (onTc (τ := Cert.CaRefIdeal.τ) (Cert.CaRefIdeal.main (F := Ideal))) ⟨m, fun _ => 0, g⟩ (fun r => (∀ c : Dev Cert.CaRefIdeal.nD,
      r.2.mem ((c.tc : Thread Cert.CaRefIdeal.nD Cert.CaRefIdeal.τ).loc Cert.CaRefIdeal.main_arg0) = m ((c.tc : Thread Cert.CaRefIdeal.nD Cert.CaRefIdeal.τ).loc Cert.CaRefIdeal.main_arg0)
      ∧ r.2.mem ((c.tc : Thread Cert.CaRefIdeal.nD Cert.CaRefIdeal.τ).loc Cert.CaRefIdeal.main_arg1) = m ((c.tc : Thread Cert.CaRefIdeal.nD Cert.CaRefIdeal.τ).loc Cert.CaRefIdeal.main_arg1))
      ∧ r.2.sem = fun _ => 0)

def quiescent_CaRefIdeal_pre_finite [hCaRefIdeal : Cert.CaRefIdeal.Facts] [hPre_finite : Cert.Pre_finite.Facts] : Prop :=
  ∀ (m : (ℓ : Loc Cert.CaRefIdeal.nD Cert.CaRefIdeal.τ Cert.CaRefIdeal.sig) → Buf (Elt Ideal) ℓ) (g : Dev Cert.CaRefIdeal.nD → PrngReg), Pre_CaRefIdeal_finite m →
    θ_run (Cert.CaRefIdeal.defs (F := Ideal)) (onTc (τ := Cert.CaRefIdeal.τ) (Cert.CaRefIdeal.main (F := Ideal))) ⟨m, fun _ => 0, g⟩ (fun r => (∀ c : Dev Cert.CaRefIdeal.nD,
      r.2.mem ((c.tc : Thread Cert.CaRefIdeal.nD Cert.CaRefIdeal.τ).loc Cert.CaRefIdeal.main_arg0) = m ((c.tc : Thread Cert.CaRefIdeal.nD Cert.CaRefIdeal.τ).loc Cert.CaRefIdeal.main_arg0)
      ∧ r.2.mem ((c.tc : Thread Cert.CaRefIdeal.nD Cert.CaRefIdeal.τ).loc Cert.CaRefIdeal.main_arg1) = m ((c.tc : Thread Cert.CaRefIdeal.nD Cert.CaRefIdeal.τ).loc Cert.CaRefIdeal.main_arg1))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3)
      ∧ r.2.mem ((c.tc : Thread Cert.Sb.nD Cert.Sb.τ).loc Cert.Sb.main_arg4) = m ((c.tc : Thread Cert.Sb.nD Cert.Sb.τ).loc Cert.Sb.main_arg4)
      ∧ r.2.mem ((c.tc : Thread Cert.Sb.nD Cert.Sb.τ).loc Cert.Sb.main_arg5) = m ((c.tc : Thread Cert.Sb.nD Cert.Sb.τ).loc Cert.Sb.main_arg5)
      ∧ r.2.mem ((c.tc : Thread Cert.Sb.nD Cert.Sb.τ).loc Cert.Sb.main_arg6) = m ((c.tc : Thread Cert.Sb.nD Cert.Sb.τ).loc Cert.Sb.main_arg6)
      ∧ r.2.mem ((c.tc : Thread Cert.Sb.nD Cert.Sb.τ).loc Cert.Sb.main_arg7) = m ((c.tc : Thread Cert.Sb.nD Cert.Sb.τ).loc Cert.Sb.main_arg7))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
      ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
      ∧ r.2.mem ((c.tc : Thread Cert.SbIdeal.nD Cert.SbIdeal.τ).loc Cert.SbIdeal.main_arg6) = m ((c.tc : Thread Cert.SbIdeal.nD Cert.SbIdeal.τ).loc Cert.SbIdeal.main_arg6)
      ∧ r.2.mem ((c.tc : Thread Cert.SbIdeal.nD Cert.SbIdeal.τ).loc Cert.SbIdeal.main_arg7) = m ((c.tc : Thread Cert.SbIdeal.nD Cert.SbIdeal.τ).loc Cert.SbIdeal.main_arg7))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4)
      ∧ r.2.mem ((c.tc : Thread Cert.SbRefIdeal.nD Cert.SbRefIdeal.τ).loc Cert.SbRefIdeal.main_arg5) = m ((c.tc : Thread Cert.SbRefIdeal.nD Cert.SbRefIdeal.τ).loc Cert.SbRefIdeal.main_arg5)
      ∧ r.2.mem ((c.tc : Thread Cert.SbRefIdeal.nD Cert.SbRefIdeal.τ).loc Cert.SbRefIdeal.main_arg6) = m ((c.tc : Thread Cert.SbRefIdeal.nD Cert.SbRefIdeal.τ).loc Cert.SbRefIdeal.main_arg6)
      ∧ r.2.mem ((c.tc : Thread Cert.SbRefIdeal.nD Cert.SbRefIdeal.τ).loc Cert.SbRefIdeal.main_arg7) = m ((c.tc : Thread Cert.SbRefIdeal.nD Cert.SbRefIdeal.τ).loc Cert.SbRefIdeal.main_arg7))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v17)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v17) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v8) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v27) = v0 c
          ∧ r.2.mem ((c.tc : Thread Cert.MixRefIdeal.nD Cert.MixRefIdeal.τ).loc Cert.MixRefIdeal.main_v42) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v42) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Ca_CaIdeal : Prop :=
  True

def algebraic_CaIdeal_CaRefIdeal_pre_finite [hCaIdeal : Cert.CaIdeal.Facts] [hCaRefIdeal : Cert.CaRefIdeal.Facts] [hPre_finite : Cert.Pre_finite.Facts] : Prop :=
  ∀ (m : (ℓ : Loc Cert.CaIdeal.nD Cert.CaIdeal.τ Cert.CaIdeal.sig) → Buf (Elt Ideal) ℓ) (g : Dev Cert.CaIdeal.nD → PrngReg)
    (m' : (ℓ : Loc Cert.CaRefIdeal.nD Cert.CaRefIdeal.τ Cert.CaRefIdeal.sig) → Buf (Elt Ideal) ℓ) (g' : Dev Cert.CaRefIdeal.nD → PrngReg), Pre_CaIdeal_finite m →
    (∀ c : Dev Cert.CaIdeal.nD,
      m' ((c.tc : Thread Cert.CaRefIdeal.nD Cert.CaRefIdeal.τ).loc Cert.CaRefIdeal.main_arg0) = m ((c.tc : Thread Cert.CaIdeal.nD Cert.CaIdeal.τ).loc Cert.CaIdeal.main_arg0)
      ∧ m' ((c.tc : Thread Cert.CaRefIdeal.nD Cert.CaRefIdeal.τ).loc Cert.CaRefIdeal.main_arg1) = m ((c.tc : Thread Cert.CaIdeal.nD Cert.CaIdeal.τ).loc Cert.CaIdeal.main_arg1)) →
    ∃ (v0 : (c : Dev Cert.CaIdeal.nD) → Buf (Elt Ideal) ((c.tc : Thread Cert.CaIdeal.nD Cert.CaIdeal.τ).loc Cert.CaIdeal.main_v30)),
      θ_run (Cert.CaIdeal.defs (F := Ideal)) (onTc (τ := Cert.CaIdeal.τ) (Cert.CaIdeal.main (F := Ideal))) ⟨m, fun _ => 0, g⟩ (fun r => ∀ c : Dev Cert.CaIdeal.nD,
          r.2.mem ((c.tc : Thread Cert.CaIdeal.nD Cert.CaIdeal.τ).loc Cert.CaIdeal.main_v30) = v0 c
          ∧ r.2.mem ((c.tc : Thread Cert.CaIdeal.nD Cert.CaIdeal.τ).loc Cert.CaIdeal.main_arg0) = m ((c.tc : Thread Cert.CaIdeal.nD Cert.CaIdeal.τ).loc Cert.CaIdeal.main_arg0)
          ∧ r.2.mem ((c.tc : Thread Cert.CaIdeal.nD Cert.CaIdeal.τ).loc Cert.CaIdeal.main_arg1) = m ((c.tc : Thread Cert.CaIdeal.nD Cert.CaIdeal.τ).loc Cert.CaIdeal.main_arg1))
      ∧ θ_run (Cert.CaRefIdeal.defs (F := Ideal)) (onTc (τ := Cert.CaRefIdeal.τ) (Cert.CaRefIdeal.main (F := Ideal))) ⟨m', fun _ => 0, g'⟩ (fun r => ∀ c : Dev Cert.CaRefIdeal.nD,
          r.2.mem ((c.tc : Thread Cert.CaRefIdeal.nD Cert.CaRefIdeal.τ).loc Cert.CaRefIdeal.main_v56) = v0 c
          ∧ r.2.mem ((c.tc : Thread Cert.CaRefIdeal.nD Cert.CaRefIdeal.τ).loc Cert.CaRefIdeal.main_arg0) = m' ((c.tc : Thread Cert.CaRefIdeal.nD Cert.CaRefIdeal.τ).loc Cert.CaRefIdeal.main_arg0)
          ∧ r.2.mem ((c.tc : Thread Cert.CaRefIdeal.nD Cert.CaRefIdeal.τ).loc Cert.CaRefIdeal.main_arg1) = m' ((c.tc : Thread Cert.CaRefIdeal.nD Cert.CaRefIdeal.τ).loc Cert.CaRefIdeal.main_arg1))

def preserves_Sb_SbIdeal : Prop :=
  True

def algebraic_SbIdeal_SbRefIdeal_on_weights_only [hSbIdeal : Cert.SbIdeal.Facts] [hSbRefIdeal : Cert.SbRefIdeal.Facts] [hOn_weights_only : Cert.On_weights_only.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)
      ∧ m' ((c.tc : Thread Cert.SbRefIdeal.nD Cert.SbRefIdeal.τ).loc Cert.SbRefIdeal.main_arg4) = m ((c.tc : Thread Cert.SbIdeal.nD Cert.SbIdeal.τ).loc Cert.SbIdeal.main_arg4)
      ∧ m' ((c.tc : Thread Cert.SbRefIdeal.nD Cert.SbRefIdeal.τ).loc Cert.SbRefIdeal.main_arg5) = m ((c.tc : Thread Cert.SbIdeal.nD Cert.SbIdeal.τ).loc Cert.SbIdeal.main_arg5)
      ∧ m' ((c.tc : Thread Cert.SbRefIdeal.nD Cert.SbRefIdeal.τ).loc Cert.SbRefIdeal.main_arg6) = m ((c.tc : Thread Cert.SbIdeal.nD Cert.SbIdeal.τ).loc Cert.SbIdeal.main_arg6)
      ∧ m' ((c.tc : Thread Cert.SbRefIdeal.nD Cert.SbRefIdeal.τ).loc Cert.SbRefIdeal.main_arg7) = m ((c.tc : Thread Cert.SbIdeal.nD Cert.SbIdeal.τ).loc Cert.SbIdeal.main_arg7)) →
    ∃ (v0 : (c : Dev Cert.SbIdeal.nD) → Buf (Elt Ideal) ((c.tc : Thread Cert.SbIdeal.nD Cert.SbIdeal.τ).loc Cert.SbIdeal.main_v0_0)) (v1 : (c : Dev Cert.SbIdeal.nD) → Buf (Elt Ideal) ((c.tc : Thread Cert.SbIdeal.nD Cert.SbIdeal.τ).loc Cert.SbIdeal.main_v0_1)) (v2 : (c : Dev Cert.SbIdeal.nD) → Buf (Elt Ideal) ((c.tc : Thread Cert.SbIdeal.nD Cert.SbIdeal.τ).loc Cert.SbIdeal.main_v0_2)) (v3 : (c : Dev Cert.SbIdeal.nD) → Buf (Elt Ideal) ((c.tc : Thread Cert.SbIdeal.nD Cert.SbIdeal.τ).loc Cert.SbIdeal.main_v0_3)) (v4 : (c : Dev Cert.SbIdeal.nD) → Buf (Elt Ideal) ((c.tc : Thread Cert.SbIdeal.nD Cert.SbIdeal.τ).loc Cert.SbIdeal.main_v0_4)) (v5 : (c : Dev Cert.SbIdeal.nD) → Buf (Elt Ideal) ((c.tc : Thread Cert.SbIdeal.nD Cert.SbIdeal.τ).loc Cert.SbIdeal.main_v0_5)) (v6 : (c : Dev Cert.SbIdeal.nD) → Buf (Elt Ideal) ((c.tc : Thread Cert.SbIdeal.nD Cert.SbIdeal.τ).loc Cert.SbIdeal.main_v0_6)) (v7 : (c : Dev Cert.SbIdeal.nD) → Buf (Elt Ideal) ((c.tc : Thread Cert.SbIdeal.nD Cert.SbIdeal.τ).loc Cert.SbIdeal.main_v0_7)),
      θ_run (Cert.SbIdeal.defs (F := Ideal)) (onTc (τ := Cert.SbIdeal.τ) (Cert.SbIdeal.main (F := Ideal))) ⟨m, fun _ => 0, g⟩ (fun r => ∀ c : Dev Cert.SbIdeal.nD,
          (∀ i : (⟨3, ![8, 2048, 1024]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).1 i = 1#1 → r.2.mem ((c.tc : Thread Cert.SbIdeal.nD Cert.SbIdeal.τ).loc Cert.SbIdeal.main_v0_0) i = v0 c i)
          ∧ (∀ i : (⟨2, ![1024, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.1 i = 1#1 → r.2.mem ((c.tc : Thread Cert.SbIdeal.nD Cert.SbIdeal.τ).loc Cert.SbIdeal.main_v0_1) i = v1 c i)
          ∧ (∀ i : (⟨2, ![1024, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.1 i = 1#1 → r.2.mem ((c.tc : Thread Cert.SbIdeal.nD Cert.SbIdeal.τ).loc Cert.SbIdeal.main_v0_2) i = v2 c i)
          ∧ (∀ i : (⟨2, ![2048, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.1 i = 1#1 → r.2.mem ((c.tc : Thread Cert.SbIdeal.nD Cert.SbIdeal.τ).loc Cert.SbIdeal.main_v0_3) i = v3 c i)
          ∧ (∀ i : (⟨2, ![2048, 11264]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.1 i = 1#1 → r.2.mem ((c.tc : Thread Cert.SbIdeal.nD Cert.SbIdeal.τ).loc Cert.SbIdeal.main_v0_4) i = v4 c i)
          ∧ (∀ i : (⟨2, ![5632, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.2.1 i = 1#1 → r.2.mem ((c.tc : Thread Cert.SbIdeal.nD Cert.SbIdeal.τ).loc Cert.SbIdeal.main_v0_5) i = v5 c i)
          ∧ (∀ i : (⟨2, ![2048, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.2.2.1 i = 1#1 → r.2.mem ((c.tc : Thread Cert.SbIdeal.nD Cert.SbIdeal.τ).loc Cert.SbIdeal.main_v0_6) i = v6 c i)
          ∧ (∀ i : (⟨2, ![256, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.2.2.2 i = 1#1 → r.2.mem ((c.tc : Thread Cert.SbIdeal.nD Cert.SbIdeal.τ).loc Cert.SbIdeal.main_v0_7) i = v7 c i)
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
          ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
          ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
          ∧ r.2.mem ((c.tc : Thread Cert.SbIdeal.nD Cert.SbIdeal.τ).loc Cert.SbIdeal.main_arg6) = m ((c.tc : Thread Cert.SbIdeal.nD Cert.SbIdeal.τ).loc Cert.SbIdeal.main_arg6)
          ∧ r.2.mem ((c.tc : Thread Cert.SbIdeal.nD Cert.SbIdeal.τ).loc Cert.SbIdeal.main_arg7) = m ((c.tc : Thread Cert.SbIdeal.nD Cert.SbIdeal.τ).loc Cert.SbIdeal.main_arg7))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          (∀ i : (⟨3, ![8, 2048, 1024]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).1 i = 1#1 → r.2.mem ((c.tc : Thread Cert.SbRefIdeal.nD Cert.SbRefIdeal.τ).loc Cert.SbRefIdeal.main_v27) i = v0 c i)
          ∧ (∀ i : (⟨2, ![1024, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.1 i = 1#1 → r.2.mem ((c.tc : Thread Cert.SbRefIdeal.nD Cert.SbRefIdeal.τ).loc Cert.SbRefIdeal.main_v29) i = v1 c i)
          ∧ (∀ i : (⟨2, ![1024, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.1 i = 1#1 → r.2.mem ((c.tc : Thread Cert.SbRefIdeal.nD Cert.SbRefIdeal.τ).loc Cert.SbRefIdeal.main_v31) i = v2 c i)
          ∧ (∀ i : (⟨2, ![2048, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.1 i = 1#1 → r.2.mem ((c.tc : Thread Cert.SbRefIdeal.nD Cert.SbRefIdeal.τ).loc Cert.SbRefIdeal.main_v33) i = v3 c i)
          ∧ (∀ i : (⟨2, ![2048, 11264]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.1 i = 1#1 → r.2.mem ((c.tc : Thread Cert.SbRefIdeal.nD Cert.SbRefIdeal.τ).loc Cert.SbRefIdeal.main_v35) i = v4 c i)
          ∧ (∀ i : (⟨2, ![5632, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.2.1 i = 1#1 → r.2.mem ((c.tc : Thread Cert.SbRefIdeal.nD Cert.SbRefIdeal.τ).loc Cert.SbRefIdeal.main_v37) i = v5 c i)
          ∧ (∀ i : (⟨2, ![2048, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.2.2.1 i = 1#1 → r.2.mem ((c.tc : Thread Cert.SbRefIdeal.nD Cert.SbRefIdeal.τ).loc Cert.SbRefIdeal.main_v39) i = v6 c i)
          ∧ (∀ i : (⟨2, ![256, 2048]⟩ : Shape).Idx, (Cert.On_weights_only.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6)) (m ((c.tc : Thread Cert.SbIdeal.nD Cert.SbIdeal.τ).loc Cert.SbIdeal.main_arg7))).2.2.2.2.2.2.2 i = 1#1 → r.2.mem ((c.tc : Thread Cert.SbRefIdeal.nD Cert.SbRefIdeal.τ).loc Cert.SbRefIdeal.main_v41) i = v7 c i)
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3)
          ∧ r.2.mem ((c.tc : Thread Cert.SbRefIdeal.nD Cert.SbRefIdeal.τ).loc Cert.SbRefIdeal.main_arg4) = m' ((c.tc : Thread Cert.SbRefIdeal.nD Cert.SbRefIdeal.τ).loc Cert.SbRefIdeal.main_arg4)
          ∧ r.2.mem ((c.tc : Thread Cert.SbRefIdeal.nD Cert.SbRefIdeal.τ).loc Cert.SbRefIdeal.main_arg5) = m' ((c.tc : Thread Cert.SbRefIdeal.nD Cert.SbRefIdeal.τ).loc Cert.SbRefIdeal.main_arg5)
          ∧ r.2.mem ((c.tc : Thread Cert.SbRefIdeal.nD Cert.SbRefIdeal.τ).loc Cert.SbRefIdeal.main_arg6) = m' ((c.tc : Thread Cert.SbRefIdeal.nD Cert.SbRefIdeal.τ).loc Cert.SbRefIdeal.main_arg6)
          ∧ r.2.mem ((c.tc : Thread Cert.SbRefIdeal.nD Cert.SbRefIdeal.τ).loc Cert.SbRefIdeal.main_arg7) = m' ((c.tc : Thread Cert.SbRefIdeal.nD Cert.SbRefIdeal.τ).loc Cert.SbRefIdeal.main_arg7))

def Claim : Prop :=
  ∃ (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hPle : Cert.Ple.Facts) (hPleIdeal : Cert.PleIdeal.Facts) (hPleRefIdeal : Cert.PleRefIdeal.Facts) (hCa : Cert.Ca.Facts) (hCaIdeal : Cert.CaIdeal.Facts) (hCaRefIdeal : Cert.CaRefIdeal.Facts) (hSb : Cert.Sb.Facts) (hSbIdeal : Cert.SbIdeal.Facts) (hSbRefIdeal : Cert.SbRefIdeal.Facts) (hPre_finite : Cert.Pre_finite.Facts) (hOn_weights_only : Cert.On_weights_only.Facts),
    quiescent_InProj (hInProj := hInProj)
    ∧ quiescent_InProjIdeal (hInProjIdeal := hInProjIdeal)
    ∧ quiescent_InProjRefIdeal (hInProjRefIdeal := hInProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Ple (hPle := hPle)
    ∧ quiescent_PleIdeal (hPleIdeal := hPleIdeal)
    ∧ quiescent_PleRefIdeal (hPleRefIdeal := hPleRefIdeal)
    ∧ quiescent_Ca (hCa := hCa)
    ∧ quiescent_CaIdeal (hCaIdeal := hCaIdeal)
    ∧ quiescent_CaIdeal_pre_finite (hCaIdeal := hCaIdeal) (hPre_finite := hPre_finite)
    ∧ quiescent_CaRefIdeal (hCaRefIdeal := hCaRefIdeal)
    ∧ quiescent_CaRefIdeal_pre_finite (hCaRefIdeal := hCaRefIdeal) (hPre_finite := hPre_finite)
    ∧ quiescent_Sb (hSb := hSb)
    ∧ quiescent_SbIdeal (hSbIdeal := hSbIdeal)
    ∧ quiescent_SbRefIdeal (hSbRefIdeal := hSbRefIdeal)
    ∧ preserves_InProj_InProjIdeal
    ∧ algebraic_InProjIdeal_InProjRefIdeal (hInProjIdeal := hInProjIdeal) (hInProjRefIdeal := hInProjRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Ple_PleIdeal
    ∧ algebraic_PleIdeal_PleRefIdeal (hPleIdeal := hPleIdeal) (hPleRefIdeal := hPleRefIdeal)
    ∧ preserves_Ca_CaIdeal
    ∧ algebraic_CaIdeal_CaRefIdeal_pre_finite (hCaIdeal := hCaIdeal) (hCaRefIdeal := hCaRefIdeal) (hPre_finite := hPre_finite)
    ∧ preserves_Sb_SbIdeal
    ∧ algebraic_SbIdeal_SbRefIdeal_on_weights_only (hSbIdeal := hSbIdeal) (hSbRefIdeal := hSbRefIdeal) (hOn_weights_only := hOn_weights_only)
-- ==== On_weights_only.lean ====
abbrev S8x2048x10240 : Shape := ⟨3, ![8, 2048, 10240]⟩
abbrev S1x1024x2048 : Shape := ⟨3, ![1, 1024, 2048]⟩
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S1x256x2048 : Shape := ⟨3, ![1, 256, 2048]⟩
abbrev S_ : Shape := ⟨0, ![]⟩
abbrev S8x2048x1024 : Shape := ⟨3, ![8, 2048, 1024]⟩
abbrev S1024x2048 : Shape := ⟨2, ![1024, 2048]⟩
abbrev S2048x2048 : Shape := ⟨2, ![2048, 2048]⟩
abbrev S2048x11264 : Shape := ⟨2, ![2048, 11264]⟩
abbrev S5632x2048 : Shape := ⟨2, ![5632, 2048]⟩
abbrev S256x2048 : Shape := ⟨2, ![256, 2048]⟩

class Facts : Prop where
  bcast_S_S8x2048x1024 : S_.BroadcastsInDim S8x2048x1024 (![] : Fin 0 → Fin S8x2048x1024.rank)
  bcast_S_S1024x2048 : S_.BroadcastsInDim S1024x2048 (![] : Fin 0 → Fin S1024x2048.rank)
  bcast_S_S2048x2048 : S_.BroadcastsInDim S2048x2048 (![] : Fin 0 → Fin S2048x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)
  bcast_S_S256x2048 : S_.BroadcastsInDim S256x2048 (![] : Fin 0 → Fin S256x2048.rank)

variable [Facts]

def fn {F : FTy → Type} [FloatOps F] (main_arg0 : FVec F S8x2048x10240 .bf16) (main_arg1 : FVec F S1x1024x2048 .f32) (main_arg2 : FVec F S1x1024x2048 .f32) (main_arg3 : FVec F S1x2048x2048 .f32) (main_arg4 : FVec F S1x2048x11264 .f32) (main_arg5 : FVec F S1x5632x2048 .f32) (main_arg6 : FVec F S1x2048x2048 .f32) (main_arg7 : FVec F S1x256x2048 .f32) : IVec S8x2048x1024 1 × IVec S1024x2048 1 × IVec S1024x2048 1 × IVec S2048x2048 1 × IVec S2048x11264 1 × IVec S5632x2048 1 × IVec S2048x2048 1 × IVec S256x2048 1 :=
  let main_c : IVec S_ 1 := constantI S_ 1 0#1
  let main_v0 : IVec S8x2048x1024 1 := broadcastInDim S8x2048x1024 ![] bcast_S_S8x2048x1024 main_c
  let main_c_0 : IVec S_ 1 := constantI S_ 1 1#1
  let main_v1 : IVec S1024x2048 1 := broadcastInDim S1024x2048 ![] bcast_S_S1024x2048 main_c_0
  let main_c_1 : IVec S_ 1 := constantI S_ 1 1#1
  let main_v2 : IVec S1024x2048 1 := broadcastInDim S1024x2048 ![] bcast_S_S1024x2048 main_c_1
  let main_c_2 : IVec S_ 1 := constantI S_ 1 1#1
  let main_v3 : IVec S2048x2048 1 := broadcastInDim S2048x2048 ![] bcast_S_S2048x2048 main_c_2
  let main_c_3 : IVec S_ 1 := constantI S_ 1 1#1
  let main_v4 : IVec S2048x11264 1 := broadcastInDim S2048x11264 ![] bcast_S_S2048x11264 main_c_3
  let main_c_4 : IVec S_ 1 := constantI S_ 1 1#1
  let main_v5 : IVec S5632x2048 1 := broadcastInDim S5632x2048 ![] bcast_S_S5632x2048 main_c_4
  let main_c_5 : IVec S_ 1 := constantI S_ 1 1#1
  let main_v6 : IVec S2048x2048 1 := broadcastInDim S2048x2048 ![] bcast_S_S2048x2048 main_c_5
  let main_c_6 : IVec S_ 1 := constantI S_ 1 1#1
  let main_v7 : IVec S256x2048 1 := broadcastInDim S256x2048 ![] bcast_S_S256x2048 main_c_6
  (main_v0, main_v1, main_v2, main_v3, main_v4, main_v5, main_v6, main_v7)
-- ==== Pre_finite.lean ====
abbrev S8x2048x10240 : Shape := ⟨3, ![8, 2048, 10240]⟩
abbrev S1x8x192 : Shape := ⟨3, ![1, 8, 192]⟩
abbrev S8x2048x2048 : Shape := ⟨3, ![8, 2048, 2048]⟩
abbrev S_ : Shape := ⟨0, ![]⟩

class Facts : Prop where
  slices_S8x2048x10240_S8x2048x2048_0_0_3072 : S8x2048x10240.Slices ![0, 0, 3072] S8x2048x2048
  bitsLt_bf16_f32 : FTy.bits .bf16 < FTy.bits .f32
  bcast_S_S8x2048x2048 : S_.BroadcastsInDim S8x2048x2048 (![] : Fin 0 → Fin S8x2048x2048.rank)
  bcast_S_S1x8x192 : S_.BroadcastsInDim S1x8x192 (![] : Fin 0 → Fin S1x8x192.rank)

variable [Facts]

def fn {F : FTy → Type} [FloatOps F] (main_arg0 : FVec F S8x2048x10240 .bf16) (main_arg1 : FVec F S1x8x192 .f32) : IVec S8x2048x2048 1 × IVec S1x8x192 1 :=
  let main_v0 : FVec F S8x2048x2048 .bf16 := (extractStridedSlice S8x2048x2048 ![0, 0, 3072] · slices_S8x2048x10240_S8x2048x2048_0_0_3072) main_arg0
  let main_v1 : FVec F S8x2048x2048 .f32 := (extf .f32 · bitsLt_bf16_f32) main_v0
  let main_v2 : FVec F S8x2048x2048 .f32 := Host.absf main_v1
  let main_cst : FVec F S_ .f32 := constant S_ .f32 0x7F800000#32
  let main_v3 : FVec F S8x2048x2048 .f32 := broadcastInDim S8x2048x2048 ![] bcast_S_S8x2048x2048 main_cst
  let main_v4 : IVec S8x2048x2048 1 := cmpf .olt main_v2 main_v3
  let main_v5 : FVec F S1x8x192 .f32 := Host.absf main_arg1
  let main_cst_0 : FVec F S_ .f32 := constant S_ .f32 0x7F800000#32
  let main_v6 : FVec F S1x8x192 .f32 := broadcastInDim S1x8x192 ![] bcast_S_S1x8x192 main_cst_0
  let main_v7 : IVec S1x8x192 1 := cmpf .olt main_v5 main_v6
  (main_v4, main_v7)
-- ==== InProj.lean ====
abbrev S8x2048x2048 : Shape := ⟨3, ![8, 2048, 2048]⟩
abbrev S1x2048 : Shape := ⟨2, ![1, 2048]⟩
abbrev S1x2048x10240 : Shape := ⟨3, ![1, 2048, 10240]⟩
abbrev S16384x2048 : Shape := ⟨2, ![16384, 2048]⟩
abbrev S2048 : Shape := ⟨1, ![2048]⟩
abbrev S2048x10240 : Shape := ⟨2, ![2048, 10240]⟩
abbrev S10240 : Shape := ⟨1, ![10240]⟩
abbrev S1x10240 : Shape := ⟨2, ![1, 10240]⟩
abbrev S_ : Shape := ⟨0, ![]⟩
abbrev S16384x10240 : Shape := ⟨2, ![16384, 10240]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 28
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10240, .f32⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S2048x10240, .f32⟩
  | .hbm, ⟨7, _⟩ => ⟨S2048x10240, .bf16⟩
  | .hbm, ⟨8, _⟩ => ⟨S10240, .i32⟩
  | .hbm, ⟨9, _⟩ => ⟨S1x10240, .i32⟩
  | .hbm, ⟨10, _⟩ => ⟨S_, .i32⟩
  | .hbm, ⟨11, _⟩ => ⟨S1x10240, .i32⟩
  | .hbm, ⟨12, _⟩ => ⟨S1x10240, .i1⟩
  | .hbm, ⟨13, _⟩ => ⟨S_, .i32⟩
  | .hbm, ⟨14, _⟩ => ⟨S1x10240, .i32⟩
  | .hbm, ⟨15, _⟩ => ⟨S1x10240, .i1⟩
  | .hbm, ⟨16, _⟩ => ⟨S_, .i32⟩
  | .hbm, ⟨17, _⟩ => ⟨S1x10240, .i32⟩
  | .hbm, ⟨18, _⟩ => ⟨S1x10240, .i1⟩
  | .hbm, ⟨19, _⟩ => ⟨S1x10240, .i1⟩
  | .hbm, ⟨20, _⟩ => ⟨S1x10240, .i1⟩
  | .hbm, ⟨21, _⟩ => ⟨S_, .f32⟩
  | .hbm, ⟨22, _⟩ => ⟨S_, .f32⟩
  | .hbm, ⟨23, _⟩ => ⟨S1x10240, .f32⟩
  | .hbm, ⟨24, _⟩ => ⟨S1x10240, .f32⟩
  | .hbm, ⟨25, _⟩ => ⟨S1x10240, .f32⟩
  | .hbm, ⟨26, _⟩ => ⟨S1x10240, .f32⟩
  | .hbm, ⟨27, _⟩ => ⟨S16384x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8x2048x2048 : Shape := ⟨3, ![8, 2048, 2048]⟩
abbrev S1x2048 : Shape := ⟨2, ![1, 2048]⟩
abbrev S1x2048x10240 : Shape := ⟨3, ![1, 2048, 10240]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S2048x10240 : Shape := ⟨2, ![2048, 10240]⟩
abbrev S8x2048x10240 : Shape := ⟨3, ![8, 2048, 10240]⟩
abbrev S16384x10240 : Shape := ⟨2, ![16384, 10240]⟩
abbrev S16384x1024 : Shape := ⟨2, ![16384, 1024]⟩
abbrev S16384x2048 : Shape := ⟨2, ![16384, 2048]⟩
abbrev S16384x6144 : Shape := ⟨2, ![16384, 6144]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10240, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x10240, .f32⟩
  | .hbm, ⟨21, _⟩ => ⟨S8x2048x10240, .f32⟩
  | .hbm, ⟨22, _⟩ => ⟨S16384x10240, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x6144, .f32⟩
  | .hbm, ⟨33, _⟩ => ⟨S16384x10240, .f32⟩
  | .hbm, ⟨34, _⟩ => ⟨S16384x10240, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Ffn.lean ====
abbrev S16384x2048 : Shape := ⟨2, ![16384, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S2048x256 : Shape := ⟨2, ![2048, 256]⟩
abbrev S1024x256 : Shape := ⟨2, ![1024, 256]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S5632x2048, .bf16⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16384x2048 : Shape := ⟨2, ![16384, 2048]⟩
abbrev S2048x11264 : Shape := ⟨2, ![2048, 11264]⟩
abbrev S5632x2048 : Shape := ⟨2, ![5632, 2048]⟩
abbrev S16384x11264 : Shape := ⟨2, ![16384, 11264]⟩
abbrev S16384x5632 : Shape := ⟨2, ![16384, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S5632x2048, .bf16⟩
  | .hbm, ⟨3, _⟩ => ⟨S16384x2048, .f32⟩
  | .hbm, ⟨4, _⟩ => ⟨S2048x11264, .f32⟩
  | .hbm, ⟨5, _⟩ => ⟨S16384x11264, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S5632x2048, .f32⟩
  | .hbm, ⟨19, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Mix.lean ====
abbrev S16384x1024 : Shape := ⟨2, ![16384, 1024]⟩
abbrev S16384x10240 : Shape := ⟨2, ![16384, 10240]⟩
abbrev S8x2048x2048 : Shape := ⟨3, ![8, 2048, 2048]⟩
abbrev S1024x2048 : Shape := ⟨2, ![1024, 2048]⟩
abbrev S2048x2048 : Shape := ⟨2, ![2048, 2048]⟩
abbrev S1x2048 : Shape := ⟨2, ![1, 2048]⟩
abbrev S16384x2048 : Shape := ⟨2, ![16384, 2048]⟩
abbrev S2048 : Shape := ⟨1, ![2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S8x2048x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S16384x1024 : Shape := ⟨2, ![16384, 1024]⟩
abbrev S16384x10240 : Shape := ⟨2, ![16384, 10240]⟩
abbrev S8x2048x2048 : Shape := ⟨3, ![8, 2048, 2048]⟩
abbrev S1024x2048 : Shape := ⟨2, ![1024, 2048]⟩
abbrev S2048x2048 : Shape := ⟨2, ![2048, 2048]⟩
abbrev S1x2048 : Shape := ⟨2, ![1, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S2048 : Shape := ⟨1, ![2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S8x2048x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S16384x10240, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x1024, .f32⟩
  | .hbm, ⟨20, _⟩ => ⟨S1024x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x1024, .f32⟩
  | .hbm, ⟨32, _⟩ => ⟨S1024x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S2048x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Ple.lean ====
abbrev S16384x2048 : Shape := ⟨2, ![16384, 2048]⟩
abbrev S1x8x2048x256 : Shape := ⟨4, ![1, 8, 2048, 256]⟩
abbrev S1x2048 : Shape := ⟨2, ![1, 2048]⟩
abbrev S2048 : Shape := ⟨1, ![2048]⟩
abbrev S2048x2048 : Shape := ⟨2, ![2048, 2048]⟩
abbrev S256x2048 : Shape := ⟨2, ![256, 2048]⟩
abbrev S512x2048 : Shape := ⟨2, ![512, 2048]⟩
abbrev S1x1x512x256 : Shape := ⟨4, ![1, 1, 512, 256]⟩
abbrev S512 : Shape := ⟨1, ![512]⟩
abbrev S512x1 : Shape := ⟨2, ![512, 1]⟩
abbrev S512x256 : Shape := ⟨2, ![512, 256]⟩
abbrev S8x2048x2048 : Shape := ⟨3, ![8, 2048, 2048]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x8x2048x256, .f32⟩
  | .hbm, ⟨3, _⟩ => ⟨S1x2048, .f32⟩
  | .hbm, ⟨4, _⟩ => ⟨S2048, .f32⟩
  | .hbm, ⟨5, _⟩ => ⟨S2048x2048, .bf16⟩
  | .hbm, ⟨6, _⟩ => ⟨S256x2048, .bf16⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x512x256, .f32⟩
  | .local _ .vmem, ⟨5, _⟩ => ⟨S1x1x512x256, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S256x2048, .bf16⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S16384x2048 : Shape := ⟨2, ![16384, 2048]⟩
abbrev S1x8x2048x256 : Shape := ⟨4, ![1, 8, 2048, 256]⟩
abbrev S1x2048 : Shape := ⟨2, ![1, 2048]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S8x2048x256 : Shape := ⟨3, ![8, 2048, 256]⟩
abbrev S16384x256 : Shape := ⟨2, ![16384, 256]⟩
abbrev S8x2048x2048 : Shape := ⟨3, ![8, 2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x8x2048x256, .f32⟩
  | .hbm, ⟨3, _⟩ => ⟨S1x2048, .f32⟩
  | .hbm, ⟨4, _⟩ => ⟨S2048, .f32⟩
  | .hbm, ⟨5, _⟩ => ⟨S2048x2048, .bf16⟩
  | .hbm, ⟨6, _⟩ => ⟨S256x2048, .bf16⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S8x2048x256, .f32⟩
  | .hbm, ⟨36, _⟩ => ⟨S16384x256, .f32⟩
  | .hbm, ⟨37, _⟩ => ⟨S256x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S8x2048x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Ca.lean ====
abbrev S8x2048x10240 : Shape := ⟨3, ![8, 2048, 10240]⟩
abbrev S1x8x192 : Shape := ⟨3, ![1, 8, 192]⟩
abbrev S8x192 : Shape := ⟨2, ![8, 192]⟩
abbrev S8x1 : Shape := ⟨2, ![8, 1]⟩
abbrev S8x511 : Shape := ⟨2, ![8, 511]⟩
abbrev S8x65 : Shape := ⟨2, ![8, 65]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S1x128x640 : Shape := ⟨3, ![1, 128, 640]⟩
abbrev S8x2048x1024 : Shape := ⟨3, ![8, 2048, 1024]⟩
abbrev S1x2048x512 : Shape := ⟨3, ![1, 2048, 512]⟩
abbrev S4x128x640 : Shape := ⟨3, ![4, 128, 640]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x384x128 : Shape := ⟨3, ![1, 384, 128]⟩
abbrev S384x128 : Shape := ⟨2, ![384, 128]⟩
abbrev S128x384 : Shape := ⟨2, ![128, 384]⟩
abbrev S1x128x384 : Shape := ⟨3, ![1, 128, 384]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x640x128 : Shape := ⟨3, ![1, 640, 128]⟩
abbrev S640x128 : Shape := ⟨2, ![640, 128]⟩
abbrev S256x256 : Shape := ⟨2, ![256, 256]⟩
abbrev S384x256 : Shape := ⟨2, ![384, 256]⟩
abbrev S512x256 : Shape := ⟨2, ![512, 256]⟩
abbrev S640x256 : Shape := ⟨2, ![640, 256]⟩

abbrev nBuf : Space → Nat
  | .hbm => 74
  | .vmem => 10
  | .smem => 0
  | _ => 0

abbrev bufTy : (tb : Table) → Fin (tcTables nBuf tb) → BufTy
  | .hbm, ⟨0, _⟩ => ⟨S8x2048x10240, .bf16⟩
  | .hbm, ⟨1, _⟩ => ⟨S1x8x192, .f32⟩
  | .hbm, ⟨2, _⟩ => ⟨S8x192, .f32⟩
  | .hbm, ⟨3, _⟩ => ⟨S8x1, .f32⟩
  | .hbm, ⟨4, _⟩ => ⟨S8x511, .f32⟩
  | .hbm, ⟨5, _⟩ => ⟨S8x1, .f32⟩
  | .hbm, ⟨6, _⟩ => ⟨S8x65, .f32⟩
  | .hbm, ⟨7, _⟩ => ⟨S8x768, .f32⟩
  | .hbm, ⟨8, _⟩ => ⟨S1x8x1x768, .f32⟩
  | .hbm, ⟨9, _⟩ => ⟨S1x8x128x768, .f32⟩
  | .hbm, ⟨10, _⟩ => ⟨S8x98304, .f32⟩
  | .hbm, ⟨11, _⟩ => ⟨S8x98176, .f32⟩
  | .hbm, ⟨12, _⟩ => ⟨S8x128x767, .f32⟩
  | .hbm, ⟨13, _⟩ => ⟨S8x128x640, .f32⟩
  | .hbm, ⟨14, _⟩ => ⟨S128, .i32⟩
  | .hbm, ⟨15, _⟩ => ⟨S128x1, .i32⟩
  | .hbm, ⟨16, _⟩ => ⟨S640, .i32⟩
  | .hbm, ⟨17, _⟩ => ⟨S1x640, .i32⟩
  | .hbm, ⟨18, _⟩ => ⟨S_, .i32⟩
  | .hbm, ⟨19, _⟩ => ⟨S_, .i32⟩
  | .hbm, ⟨20, _⟩ => ⟨S1x640, .i32⟩
  | .hbm, ⟨21, _⟩ => ⟨S1x640, .i32⟩
  | .hbm, ⟨22, _⟩ => ⟨S1x640, .i32⟩
  | .hbm, ⟨23, _⟩ => ⟨S_, .i32⟩
  | .hbm, ⟨24, _⟩ => ⟨S1x640, .i32⟩
  | .hbm, ⟨25, _⟩ => ⟨S1x640, .i1⟩
  | .hbm, ⟨26, _⟩ => ⟨S1x640, .i32⟩
  | .hbm, ⟨27, _⟩ => ⟨S1x640, .i32⟩
  | .hbm, ⟨28, _⟩ => ⟨S_, .i32⟩
  | .hbm, ⟨29, _⟩ => ⟨S1x640, .i32⟩
  | .hbm, ⟨30, _⟩ => ⟨S1x640, .i1⟩
  | .hbm, ⟨31, _⟩ => ⟨S1x640, .i1⟩
  | .hbm, ⟨32, _⟩ => ⟨S_, .i32⟩
  | .hbm, ⟨33, _⟩ => ⟨S1x640, .i32⟩
  | .hbm, ⟨34, _⟩ => ⟨S1x640, .i32⟩
  | .hbm, ⟨35, _⟩ => ⟨S1x640, .i32⟩
  | .hbm, ⟨36, _⟩ => ⟨S_, .i32⟩
  | .hbm, ⟨37, _⟩ => ⟨S1x640, .i32⟩
  | .hbm, ⟨38, _⟩ => ⟨S1x640, .i32⟩
  | .hbm, ⟨39, _⟩ => ⟨S_, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S128x1, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i1⟩
  | .hbm, ⟨52, _⟩ => ⟨S128x1, .i1⟩
  | .hbm, ⟨53, _⟩ => ⟨S_, .i32⟩
  | .hbm, ⟨54, _⟩ => ⟨S128x1, .i32⟩
  | .hbm, ⟨55, _⟩ => ⟨S128x1, .i32⟩
  | .hbm, ⟨56, _⟩ => ⟨S128x1, .i32⟩
  | .hbm, ⟨57, _⟩ => ⟨S128x640, .i32⟩
  | .hbm, ⟨58, _⟩ => ⟨S128x640, .i32⟩
  | .hbm, ⟨59, _⟩ => ⟨S128x640, .i32⟩
  | .hbm, ⟨60, _⟩ => ⟨S_, .i32⟩
  | .hbm, ⟨61, _⟩ => ⟨S128x640, .i32⟩
  | .hbm, ⟨62, _⟩ => ⟨S128x640, .i1⟩
  | .hbm, ⟨63, _⟩ => ⟨S_, .i32⟩
  | .hbm, ⟨64, _⟩ => ⟨S128x640, .i32⟩
  | .hbm, ⟨65, _⟩ => ⟨S128x640, .i1⟩
  | .hbm, ⟨66, _⟩ => ⟨S128x640, .i1⟩
  | .hbm, ⟨67, _⟩ => ⟨S1x128x640, .i1⟩
  | .hbm, ⟨68, _⟩ => ⟨S_, .f32⟩
  | .hbm, ⟨69, _⟩ => ⟨S_, .f32⟩
  | .hbm, ⟨70, _⟩ => ⟨S8x128x640, .i1⟩
  | .hbm, ⟨71, _⟩ => ⟨S8x128x640, .f32⟩
  | .hbm, ⟨72, _⟩ => ⟨S8x128x640, .f32⟩
  | .hbm, ⟨73, _⟩ => ⟨S8x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S4x128x640, .f32⟩
  | .local _ .vmem, ⟨7, _⟩ => ⟨S4x128x640, .f32⟩
  | .local _ .vmem, ⟨8, _⟩ => ⟨S1x2048x512, .bf16⟩
  | .local _ .vmem, ⟨9, _⟩ => ⟨S1x2048x512, .bf16⟩
  | _, _ => ⟨S8x2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v16 : Ref sig .tc := ⟨.hbm, 35, rfl⟩
abbrev main_c_0 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_c_2 : Ref sig .tc := ⟨.hbm, 60, rfl⟩
abbrev main_v23 : Ref sig .tc := ⟨.hbm, 61, rfl⟩
abbrev main_v24 : Ref sig .tc := ⟨.hbm, 62, rfl⟩
abbrev main_c_3 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v29 : Ref sig .tc := ⟨.hbm, 72, rfl⟩
abbrev main_v30 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CaRefIdeal.lean ====
abbrev S8x2048x10240 : Shape := ⟨3, ![8, 2048, 10240]⟩
abbrev S1x8x192 : Shape := ⟨3, ![1, 8, 192]⟩
abbrev S8x2048x1024 : Shape := ⟨3, ![8, 2048, 1024]⟩
abbrev S8x2048x8x128 : Shape := ⟨4, ![8, 2048, 8, 128]⟩
abbrev S2048 : Shape := ⟨1, ![2048]⟩
abbrev S32 : Shape := ⟨1, ![32]⟩
abbrev S32x64 : Shape := ⟨2, ![32, 64]⟩
abbrev S8x192 : Shape := ⟨2, ![8, 192]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S8x2048x2048 : Shape := ⟨3, ![8, 2048, 2048]⟩
abbrev S8x8x2048x2048 : Shape := ⟨4, ![8, 8, 2048, 2048]⟩
abbrev S1x8x2048x2048 : Shape := ⟨4, ![1, 8, 2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x10240, .bf16⟩
  | .hbm, ⟨1, _⟩ => ⟨S1x8x192, .f32⟩
  | .hbm, ⟨2, _⟩ => ⟨S8x2048x10240, .f32⟩
  | .hbm, ⟨3, _⟩ => ⟨S8x2048x1024, .f32⟩
  | .hbm, ⟨4, _⟩ => ⟨S8x2048x8x128, .f32⟩
  | .hbm, ⟨5, _⟩ => ⟨S8x2048x1024, .f32⟩
  | .hbm, ⟨6, _⟩ => ⟨S8x2048x8x128, .f32⟩
  | .hbm, ⟨7, _⟩ => ⟨S8x2048x1024, .f32⟩
  | .hbm, ⟨8, _⟩ => ⟨S8x2048x8x128, .f32⟩
  | .hbm, ⟨9, _⟩ => ⟨S2048, .i32⟩
  | .hbm, ⟨10, _⟩ => ⟨S32, .i32⟩
  | .hbm, ⟨11, _⟩ => ⟨S32x64, .i32⟩
  | .hbm, ⟨12, _⟩ => ⟨S2048, .i32⟩
  | .hbm, ⟨13, _⟩ => ⟨S8x192, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i1⟩
  | .hbm, ⟨33, _⟩ => ⟨S_, .i32⟩
  | .hbm, ⟨34, _⟩ => ⟨S2048x2048, .i32⟩
  | .hbm, ⟨35, _⟩ => ⟨S2048x2048, .i32⟩
  | .hbm, ⟨36, _⟩ => ⟨S2048x2048, .i32⟩
  | .hbm, ⟨37, _⟩ => ⟨S2048x2048x1, .i32⟩
  | .hbm, ⟨38, _⟩ => ⟨S8x2048x2048, .f32⟩
  | .hbm, ⟨39, _⟩ => ⟨S2048x1, .i32⟩
  | .hbm, ⟨40, _⟩ => ⟨S1x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S8x8x2048x2048, .f32⟩
  | .hbm, ⟨45, _⟩ => ⟨S1x8x2048x2048, .f32⟩
  | .hbm, ⟨46, _⟩ => ⟨S8x8x2048x2048, .f32⟩
  | .hbm, ⟨47, _⟩ => ⟨S8x8x2048x2048, .f32⟩
  | .hbm, ⟨48, _⟩ => ⟨S_, .i32⟩
  | .hbm, ⟨49, _⟩ => ⟨S2048x2048, .i32⟩
  | .hbm, ⟨50, _⟩ => ⟨S2048x2048, .i1⟩
  | .hbm, ⟨51, _⟩ => ⟨S_, .i32⟩
  | .hbm, ⟨52, _⟩ => ⟨S2048x2048, .i32⟩
  | .hbm, ⟨53, _⟩ => ⟨S2048x2048, .i1⟩
  | .hbm, ⟨54, _⟩ => ⟨S2048x2048, .i1⟩
  | .hbm, ⟨55, _⟩ => ⟨S_, .f32⟩
  | .hbm, ⟨56, _⟩ => ⟨S_, .f32⟩
  | .hbm, ⟨57, _⟩ => ⟨S8x8x2048x2048, .i1⟩
  | .hbm, ⟨58, _⟩ => ⟨S8x8x2048x2048, .f32⟩
  | .hbm, ⟨59, _⟩ => ⟨S8x8x2048x2048, .f32⟩
  | .hbm, ⟨60, _⟩ => ⟨S_, .f32⟩
  | .hbm, ⟨61, _⟩ => ⟨S8x8x2048, .f32⟩
  | .hbm, ⟨62, _⟩ => ⟨S_, .f32⟩
  | .hbm, ⟨63, _⟩ => ⟨S8x8x2048, .f32⟩
  | .hbm, ⟨64, _⟩ => ⟨S8x8x2048, .f32⟩
  | .hbm, ⟨65, _⟩ => ⟨S8x8x2048x1, .f32⟩
  | .hbm, ⟨66, _⟩ => ⟨S8x8x2048x2048, .f32⟩
  | .hbm, ⟨67, _⟩ => ⟨S8x8x2048x2048, .f32⟩
  | .hbm, ⟨68, _⟩ => ⟨S8x8x2048x2048, .f32⟩
  | .hbm, ⟨69, _⟩ => ⟨S_, .f32⟩
  | .hbm, ⟨70, _⟩ => ⟨S8x8x2048, .f32⟩
  | .hbm, ⟨71, _⟩ => ⟨S8x8x2048x1, .f32⟩
  | .hbm, ⟨72, _⟩ => ⟨S8x8x2048x2048, .f32⟩
  | .hbm, ⟨73, _⟩ => ⟨S8x8x2048x2048, .f32⟩
  | .hbm, ⟨74, _⟩ => ⟨S8x8x128x2048, .f32⟩
  | .hbm, ⟨75, _⟩ => ⟨S8x2048x8x128, .f32⟩
  | .hbm, ⟨76, _⟩ => ⟨S8x2048x1024, .f32⟩
  | .hbm, ⟨77, _⟩ => ⟨S8x2048x1024, .bf16⟩
  | _, _ => ⟨S8x2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Sb.lean ====
abbrev S8x2048x10240 : Shape := ⟨3, ![8, 2048, 10240]⟩
abbrev S1x1024x2048 : Shape := ⟨3, ![1, 1024, 2048]⟩
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S1x256x2048 : Shape := ⟨3, ![1, 256, 2048]⟩
abbrev S8x2048x1024 : Shape := ⟨3, ![8, 2048, 1024]⟩
abbrev S1024x2048 : Shape := ⟨2, ![1024, 2048]⟩
abbrev S2048x2048 : Shape := ⟨2, ![2048, 2048]⟩
abbrev S2048x11264 : Shape := ⟨2, ![2048, 11264]⟩
abbrev S5632x2048 : Shape := ⟨2, ![5632, 2048]⟩
abbrev S256x2048 : Shape := ⟨2, ![256, 2048]⟩
abbrev S1x512x512 : Shape := ⟨3, ![1, 512, 512]⟩
abbrev S1x2048x512 : Shape := ⟨3, ![1, 2048, 512]⟩
abbrev S1x16x2048 : Shape := ⟨3, ![1, 16, 2048]⟩
abbrev S1x32x2048 : Shape := ⟨3, ![1, 32, 2048]⟩
abbrev S1x32x11264 : Shape := ⟨3, ![1, 32, 11264]⟩
abbrev S1x128x2048 : Shape := ⟨3, ![1, 128, 2048]⟩
abbrev S16x2048 : Shape := ⟨2, ![16, 2048]⟩
abbrev S32x2048 : Shape := ⟨2, ![32, 2048]⟩
abbrev S32x11264 : Shape := ⟨2, ![32, 11264]⟩
abbrev S128x2048 : Shape := ⟨2, ![128, 2048]⟩
abbrev S512x512 : Shape := ⟨2, ![512, 512]⟩
abbrev S4x512x1 : Shape := ⟨3, ![4, 512, 1]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S4x256x1 : Shape := ⟨3, ![4, 256, 1]⟩
abbrev S1x4x256x1 : Shape := ⟨4, ![1, 4, 256, 1]⟩
abbrev S1 : Shape := ⟨1, ![1]⟩
abbrev S1x1x1x1 : Shape := ⟨4, ![1, 1, 1, 1]⟩
abbrev S1x512x128 : Shape := ⟨3, ![1, 512, 128]⟩
abbrev S512x128 : Shape := ⟨2, ![512, 128]⟩
abbrev S512x256 : Shape := ⟨2, ![512, 256]⟩
abbrev S1x512x1 : Shape := ⟨3, ![1, 512, 1]⟩
abbrev S512x1 : Shape := ⟨2, ![512, 1]⟩
abbrev S512 : Shape := ⟨1, ![512]⟩

abbrev nBuf : Space → Nat
  | .hbm => 16
  | .vmem => 38
  | .smem => 0
  | _ => 0

abbrev bufTy : (tb : Table) → Fin (tcTables nBuf tb) → BufTy
  | .hbm, ⟨0, _⟩ => ⟨S8x2048x10240, .bf16⟩
  | .hbm, ⟨1, _⟩ => ⟨S1x1024x2048, .f32⟩
  | .hbm, ⟨2, _⟩ => ⟨S1x1024x2048, .f32⟩
  | .hbm, ⟨3, _⟩ => ⟨S1x2048x2048, .f32⟩
  | .hbm, ⟨4, _⟩ => ⟨S1x2048x11264, .f32⟩
  | .hbm, ⟨5, _⟩ => ⟨S1x5632x2048, .f32⟩
  | .hbm, ⟨6, _⟩ => ⟨S1x2048x2048, .f32⟩
  | .hbm, ⟨7, _⟩ => ⟨S1x256x2048, .f32⟩
  | .hbm, ⟨8, _⟩ => ⟨S8x2048x1024, .bf16⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S2048x11264, .bf16⟩
  | .hbm, ⟨13, _⟩ => ⟨S5632x2048, .bf16⟩
  | .hbm, ⟨14, _⟩ => ⟨S2048x2048, .bf16⟩
  | .hbm, ⟨15, _⟩ => ⟨S256x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x16x2048, .f32⟩
  | .local _ .vmem, ⟨7, _⟩ => ⟨S1x16x2048, .f32⟩
  | .local _ .vmem, ⟨8, _⟩ => ⟨S1x16x2048, .f32⟩
  | .local _ .vmem, ⟨9, _⟩ => ⟨S1x16x2048, .f32⟩
  | .local _ .vmem, ⟨10, _⟩ => ⟨S1x32x2048, .f32⟩
  | .local _ .vmem, ⟨11, _⟩ => ⟨S1x32x2048, .f32⟩
  | .local _ .vmem, ⟨12, _⟩ => ⟨S1x32x11264, .f32⟩
  | .local _ .vmem, ⟨13, _⟩ => ⟨S1x32x11264, .f32⟩
  | .local _ .vmem, ⟨14, _⟩ => ⟨S1x128x2048, .f32⟩
  | .local _ .vmem, ⟨15, _⟩ => ⟨S1x128x2048, .f32⟩
  | .local _ .vmem, ⟨16, _⟩ => ⟨S1x32x2048, .f32⟩
  | .local _ .vmem, ⟨17, _⟩ => ⟨S1x32x2048, .f32⟩
  | .local _ .vmem, ⟨18, _⟩ => ⟨S1x16x2048, .f32⟩
  | .local _ .vmem, ⟨19, _⟩ => ⟨S1x16x2048, .f32⟩
  | .local _ .vmem, ⟨20, _⟩ => ⟨S1x512x512, .bf16⟩
  | .local _ .vmem, ⟨21, _⟩ => ⟨S1x512x512, .bf16⟩
  | .local _ .vmem, ⟨22, _⟩ => ⟨S16x2048, .bf16⟩
  | .local _ .vmem, ⟨23, _⟩ => ⟨S16x2048, .bf16⟩
  | .local _ .vmem, ⟨24, _⟩ => ⟨S16x2048, .bf16⟩
  | .local _ .vmem, ⟨25, _⟩ => ⟨S16x2048, .bf16⟩
  | .local _ .vmem, ⟨26, _⟩ => ⟨S32x2048, .bf16⟩
  | .local _ .vmem, ⟨27, _⟩ => ⟨S32x2048, .bf16⟩
  | .local _ .vmem, ⟨28, _⟩ => ⟨S32x11264, .bf16⟩
  | .local _ .vmem, ⟨29, _⟩ => ⟨S32x11264, .bf16⟩
  | .local _ .vmem, ⟨30, _⟩ => ⟨S128x2048, .bf16⟩
  | .local _ .vmem, ⟨31, _⟩ => ⟨S128x2048, .bf16⟩
  | .local _ .vmem, ⟨32, _⟩ => ⟨S32x2048, .bf16⟩
  | .local _ .vmem, ⟨33, _⟩ => ⟨S32x2048, .bf16⟩
  | .local _ .vmem, ⟨34, _⟩ => ⟨S16x2048, .bf16⟩
  | .local _ .vmem, ⟨35, _⟩ => ⟨S16x2048, .bf16⟩
  | .local _ .vmem, ⟨36, _⟩ => ⟨S512x512, .f32⟩
  | .local _ .vmem, ⟨37, _⟩ => ⟨S4x512x1, .f32⟩
  | _, _ => ⟨S8x2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let c2_i32 : BitVec 32 := 2#32
  let arg2 : BitVec 32 := BitVec.ofNat 32 (i 2).val
  let v35 : BitVec 32 := Scalar.muli c2_i32 arg2
  let c1_i32 : BitVec 32 := 1#32
  let v36 : BitVec 32 := Scalar.addi v35 c1_i32
  let c256_i32 : BitVec 32 := 256#32
  let v37 : BitVec 32 := Scalar.muli v36 c256_i32
  v37
def k0_off1 (i : grid0.Coords) : Fin 3 → Nat :=
  let c0_37 : Index := 0#32
  let c2_i32 : BitVec 32 := 2#32
  let arg2 : BitVec 32 := BitVec.ofNat 32 (i 2).val
  let v35 : BitVec 32 := Scalar.muli c2_i32 arg2
  let c1_i32 : BitVec 32 := 1#32
  let v36 : BitVec 32 := Scalar.addi v35 c1_i32
  let c256_i32 : BitVec 32 := 256#32
  let v37 : BitVec 32 := Scalar.muli v36 c256_i32
  let v38 : BitVec 32 := v37
  let v41 : Index := Scalar.indexCast v38
  let c0_38 : Index := 0#32
  ![0, v41.toNat, 0]
def k0_off2 (i : grid0.Coords) : Fin 3 → Nat :=
  let c0_42 : Index := 0#32
  let c2_i32 : BitVec 32 := 2#32
  let arg2 : BitVec 32 := BitVec.ofNat 32 (i 2).val
  let v35 : BitVec 32 := Scalar.muli c2_i32 arg2
  let c1_i32 : BitVec 32 := 1#32
  let v36 : BitVec 32 := Scalar.addi v35 c1_i32
  let c256_i32 : BitVec 32 := 256#32
  let v37 : BitVec 32 := Scalar.muli v36 c256_i32
  let v38 : BitVec 32 := v37
  let v47 : Index := Scalar.indexCast v38
  let c128_43 : Index := 128#32
  ![0, v47.toNat, 128]
def k0_off3 (i : grid0.Coords) : Fin 3 → Nat :=
  let c0_48 : Index := 0#32
  let c2_i32 : BitVec 32 := 2#32
  let arg2 : BitVec 32 := BitVec.ofNat 32 (i 2).val
  let v35 : BitVec 32 := Scalar.muli c2_i32 arg2
  let c1_i32 : BitVec 32 := 1#32
  let v36 : BitVec 32 := Scalar.addi v35 c1_i32
  let c256_i32 : BitVec 32 := 256#32
  let v37 : BitVec 32 := Scalar.muli v36 c256_i32
  let v38 : BitVec 32 := v37
  let v53 : Index := Scalar.indexCast v38
  let c256_49 : Index := 256#32
  ![0, v53.toNat, 256]
def k0_off4 (i : grid0.Coords) : Fin 3 → Nat :=
  let c0_53 : Index := 0#32
  let c2_i32 : BitVec 32 := 2#32
  let arg2 : BitVec 32 := BitVec.ofNat 32 (i 2).val
  let v35 : BitVec 32 := Scalar.muli c2_i32 arg2
  let c1_i32 : BitVec 32 := 1#32
  let v36 : BitVec 32 := Scalar.addi v35 c1_i32
  let c256_i32 : BitVec 32 := 256#32
  let v37 : BitVec 32 := Scalar.muli v36 c256_i32
  let v38 : BitVec 32 := v37
  let v59 : Index := Scalar.indexCast v38
  let c384_54 : Index := 384#32
  ![0, v59.toNat, 384]
def k0_mult2 (i : grid0.Coords) : BitVec 32 :=
  let c2_i32_76 : BitVec 32 := 2#32
  let arg2 : BitVec 32 := BitVec.ofNat 32 (i 2).val
  let v126 : BitVec 32 := Scalar.muli c2_i32_76 arg2
  let c256_i32_77 : BitVec 32 := 256#32
  let v127 : BitVec 32 := Scalar.muli v126 c256_i32_77
  v127
def k0_off5 (i : grid0.Coords) : Fin 3 → Nat :=
  let c0_81 : Index := 0#32
  let c2_i32_76 : BitVec 32 := 2#32
  let arg2 : BitVec 32 := BitVec.ofNat 32 (i 2).val
  let v126 : BitVec 32 := Scalar.muli c2_i32_76 arg2
  let c256_i32_77 : BitVec 32 := 256#32
  let v127 : BitVec 32 := Scalar.muli v126 c256_i32_77
  let v128 : BitVec 32 := v127
  let v131 : Index := Scalar.indexCast v128
  let c0_82 : Index := 0#32
  ![0, v131.toNat, 0]
def k0_off6 (i : grid0.Coords) : Fin 3 → Nat :=
  let c0_87 : Index := 0#32
  let c2_i32_76 : BitVec 32 := 2#32
  let arg2 : BitVec 32 := BitVec.ofNat 32 (i 2).val
  let v126 : BitVec 32 := Scalar.muli c2_i32_76 arg2
  let c256_i32_77 : BitVec 32 := 256#32
  let v127 : BitVec 32 := Scalar.muli v126 c256_i32_77
  let v128 : BitVec 32 := v127
  let v137 : Index := Scalar.indexCast v128
  let c128_88 : Index := 128#32
  ![0, v137.toNat, 128]
def k0_off7 (i : grid0.Coords) : Fin 3 → Nat :=
  let c0_93 : Index := 0#32
  let c2_i32_76 : BitVec 32 := 2#32
  let arg2 : BitVec 32 := BitVec.ofNat 32 (i 2).val
  let v126 : BitVec 32 := Scalar.muli c2_i32_76 arg2
  let c256_i32_77 : BitVec 32 := 256#32
  let v127 : BitVec 32 := Scalar.muli v126 c256_i32_77
  let v128 : BitVec 32 := v127
  let v143 : Index := Scalar.indexCast v128
  let c256_94 : Index := 256#32
  ![0, v143.toNat, 256]
def k0_off8 (i : grid0.Coords) : Fin 3 → Nat :=
  let c0_99 : Index := 0#32
  let c2_i32_76 : BitVec 32 := 2#32
  let arg2 : BitVec 32 := BitVec.ofNat 32 (i 2).val
  let v126 : BitVec 32 := Scalar.muli c2_i32_76 arg2
  let c256_i32_77 : BitVec 32 := 256#32
  let v127 : BitVec 32 := Scalar.muli v126 c256_i32_77
  let v128 : BitVec 32 := v127
  let v149 : Index := Scalar.indexCast v128
  let c384_100 : Index := 384#32
  ![0, v149.toNat, 384]
def k0_mult3 (i : grid0.Coords) : BitVec 32 :=
  let c2_i32_122 : BitVec 32 := 2#32
  let arg2 : BitVec 32 := BitVec.ofNat 32 (i 2).val
  let v216 : BitVec 32 := Scalar.muli c2_i32_122 arg2
  let c256_i32_123 : BitVec 32 := 256#32
  let v217 : BitVec 32 := Scalar.muli v216 c256_i32_123
  v217
def k0_mult4 (arg23 : BitVec 32) : BitVec 32 :=
  let c256_i32_326 : BitVec 32 := 256#32
  let v548 : BitVec 32 := Scalar.muli arg23 c256_i32_326
  v548

def k0_off9 (arg23 : BitVec 32) : Fin 3 → Nat :=
  let c0_330 : Index := 0#32
  let c256_i32_326 : BitVec 32 := 256#32
  let v548 : BitVec 32 := Scalar.muli arg23 c256_i32_326
  let v549 : BitVec 32 := v548
  let v552 : Index := Scalar.indexCast v549
  let c0_331 : Index := 0#32
  ![0, v552.toNat, 0]
def k0_off10 (arg23 : BitVec 32) : Fin 3 → Nat :=
  let c0_336 : Index := 0#32
  let c256_i32_326 : BitVec 32 := 256#32
  let v548 : BitVec 32 := Scalar.muli arg23 c256_i32_326
  let v549 : BitVec 32 := v548
  let v558 : Index := Scalar.indexCast v549
  let c128_337 : Index := 128#32
  ![0, v558.toNat, 128]
def k0_off11 (arg23 : BitVec 32) : Fin 3 → Nat :=
  let c0_342 : Index := 0#32
  let c256_i32_326 : BitVec 32 := 256#32
  let v548 : BitVec 32 := Scalar.muli arg23 c256_i32_326
  let v549 : BitVec 32 := v548
  let v564 : Index := Scalar.indexCast v549
  let c256_343 : Index := 256#32
  ![0, v564.toNat, 256]
def k0_off12 (arg23 : BitVec 32) : Fin 3 → Nat :=
  let c0_348 : Index := 0#32
  let c256_i32_326 : BitVec 32 := 256#32
  let v548 : BitVec 32 := Scalar.muli arg23 c256_i32_326
  let v549 : BitVec 32 := v548
  let v570 : Index := Scalar.indexCast v549
  let c384_349 : Index := 384#32
  ![0, v570.toNat, 384]

def k0_chk1 (arg23 : BitVec 32) : Prop :=
  (256 ∣ (k0_mult4 arg23).toNat) ∧
  (∀ a, (k0_off9 arg23) a + S1x256x128.size a ≤ S1x2048x512.size a) ∧
  (∀ a, (k0_off10 arg23) a + S1x256x128.size a ≤ S1x2048x512.size a) ∧
  (∀ a, (k0_off11 arg23) a + S1x256x128.size a ≤ S1x2048x512.size a) ∧
  (∀ a, (k0_off12 arg23) a + S1x256x128.size a ≤ S1x2048x512.size a)
theorem k0_mult4_dvd : ∀ (arg23 : BitVec 32) (k0_hw1 : k0_chk1 arg23), 256 ∣ (k0_mult4 arg23).toNat := fun arg23 k0_hw1 => k0_hw1.1
theorem k0_off9_inb : ∀ (arg23 : BitVec 32) (k0_hw1 : k0_chk1 arg23), ∀ a, (k0_off9 arg23) a + S1x256x128.size a ≤ S1x2048x512.size a := fun arg23 k0_hw1 => k0_hw1.2.1
theorem k0_off10_inb : ∀ (arg23 : BitVec 32) (k0_hw1 : k0_chk1 arg23), ∀ a, (k0_off10 arg23) a + S1x256x128.size a ≤ S1x2048x512.size a := fun arg23 k0_hw1 => k0_hw1.2.2.1
theorem k0_off11_inb : ∀ (arg23 : BitVec 32) (k0_hw1 : k0_chk1 arg23), ∀ a, (k0_off11 arg23) a + S1x256x128.size a ≤ S1x2048x512.size a := fun arg23 k0_hw1 => k0_hw1.2.2.2.1
theorem k0_off12_inb : ∀ (arg23 : BitVec 32) (k0_hw1 : k0_chk1 arg23), ∀ a, (k0_off12 arg23) a + S1x256x128.size a ≤ S1x2048x512.size a := fun arg23 k0_hw1 => k0_hw1.2.2.2.2

def k0_mult5 (arg23 : BitVec 32) : BitVec 32 :=
  let c256_i32_326 : BitVec 32 := 256#32
  let v548 : BitVec 32 := Scalar.muli arg23 c256_i32_326
  v548

def k0_off13 (arg23 : BitVec 32) : Fin 3 → Nat :=
  let c0_330 : Index := 0#32
  let c256_i32_326 : BitVec 32 := 256#32
  let v548 : BitVec 32 := Scalar.muli arg23 c256_i32_326
  let v549 : BitVec 32 := v548
  let v552 : Index := Scalar.indexCast v549
  let c0_331 : Index := 0#32
  ![0, v552.toNat, 0]
def k0_off14 (arg23 : BitVec 32) : Fin 3 → Nat :=
  let c0_336 : Index := 0#32
  let c256_i32_326 : BitVec 32 := 256#32
  let v548 : BitVec 32 := Scalar.muli arg23 c256_i32_326
  let v549 : BitVec 32 := v548
  let v558 : Index := Scalar.indexCast v549
  let c128_337 : Index := 128#32
  ![0, v558.toNat, 128]
def k0_off15 (arg23 : BitVec 32) : Fin 3 → Nat :=
  let c0_342 : Index := 0#32
  let c256_i32_326 : BitVec 32 := 256#32
  let v548 : BitVec 32 := Scalar.muli arg23 c256_i32_326
  let v549 : BitVec 32 := v548
  let v564 : Index := Scalar.indexCast v549
  let c256_343 : Index := 256#32
  ![0, v564.toNat, 256]
def k0_off16 (arg23 : BitVec 32) : Fin 3 → Nat :=
  let c0_348 : Index := 0#32
  let c256_i32_326 : BitVec 32 := 256#32
  let v548 : BitVec 32 := Scalar.muli arg23 c256_i32_326
  let v549 : BitVec 32 := v548
  let v570 : Index := Scalar.indexCast v549
  let c384_349 : Index := 384#32
  ![0, v570.toNat, 384]

def k0_chk2 (arg23 : BitVec 32) : Prop :=
  (256 ∣ (k0_mult5 arg23).toNat) ∧
  (∀ a, (k0_off13 arg23) a + S1x256x128.size a ≤ S1x2048x512.size a) ∧
  (∀ a, (k0_off14 arg23) a + S1x256x128.size a ≤ S1x2048x512.size a) ∧
  (∀ a, (k0_off15 arg23) a + S1x256x128.size a ≤ S1x2048x512.size a) ∧
  (∀ a, (k0_off16 arg23) a + S1x256x128.size a ≤ S1x2048x512.size a)
theorem k0_mult5_dvd : ∀ (arg23 : BitVec 32) (k0_hw2 : k0_chk2 arg23), 256 ∣ (k0_mult5 arg23).toNat := fun arg23 k0_hw2 => k0_hw2.1
theorem k0_off13_inb : ∀ (arg23 : BitVec 32) (k0_hw2 : k0_chk2 arg23), ∀ a, (k0_off13 arg23) a + S1x256x128.size a ≤ S1x2048x512.size a := fun arg23 k0_hw2 => k0_hw2.2.1
theorem k0_off14_inb : ∀ (arg23 : BitVec 32) (k0_hw2 : k0_chk2 arg23), ∀ a, (k0_off14 arg23) a + S1x256x128.size a ≤ S1x2048x512.size a := fun arg23 k0_hw2 => k0_hw2.2.2.1
theorem k0_off15_inb : ∀ (arg23 : BitVec 32) (k0_hw2 : k0_chk2 arg23), ∀ a, (k0_off15 arg23) a + S1x256x128.size a ≤ S1x2048x512.size a := fun arg23 k0_hw2 => k0_hw2.2.2.2.1
theorem k0_off16_inb : ∀ (arg23 : BitVec 32) (k0_hw2 : k0_chk2 arg23), ∀ a, (k0_off16 arg23) a + S1x256x128.size a ≤ S1x2048x512.size a := fun arg23 k0_hw2 => k0_hw2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c43_i32 : BitVec 32 := 43#32
  let v4 : BitVec 32 := Scalar.minsi v3 c43_i32
  let c0_i32 : BitVec 32 := 0#32
  let c0_i32_0 : BitVec 32 := 0#32
  let c0_i32_1 : BitVec 32 := 0#32
  ![c0_i32.toNat, v4.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c15_i32 : BitVec 32 := 15#32
  let v4 : BitVec 32 := Scalar.minsi v3 c15_i32
  let c0_i32 : BitVec 32 := 0#32
  let c0_i32_0 : BitVec 32 := 0#32
  let c0_i32_1 : BitVec 32 := 0#32
  ![c0_i32.toNat, v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c43_i32 : BitVec 32 := 43#32
  let v4 : BitVec 32 := Scalar.minsi v3 c43_i32
  let c0_i32 : BitVec 32 := 0#32
  let c0_i32_0 : BitVec 32 := 0#32
  ![v4.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.muli v1 c4_i32
  let v3 : BitVec 32 := Scalar.addi v2 arg2
  let c15_i32 : BitVec 32 := 15#32
  let v4 : BitVec 32 := Scalar.minsi v3 c15_i32
  let c0_i32 : BitVec 32 := 0#32
  let c0_i32_0 : BitVec 32 := 0#32
  ![v4.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x32x11264 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S32x11264 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== SbRefIdeal.lean ====
abbrev S8x2048x10240 : Shape := ⟨3, ![8, 2048, 10240]⟩
abbrev S1x1024x2048 : Shape := ⟨3, ![1, 1024, 2048]⟩
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S1x256x2048 : Shape := ⟨3, ![1, 256, 2048]⟩
abbrev S8x2048x1024 : Shape := ⟨3, ![8, 2048, 1024]⟩
abbrev S8x2048x8x128 : Shape := ⟨4, ![8, 2048, 8, 128]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x128x2048 : Shape := ⟨4, ![8, 8, 128, 2048]⟩
abbrev S1024x2048 : Shape := ⟨2, ![1024, 2048]⟩
abbrev S2048x11264 : Shape := ⟨2, ![2048, 11264]⟩
abbrev S5632x2048 : Shape := ⟨2, ![5632, 2048]⟩
abbrev S256x2048 : Shape := ⟨2, ![256, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x10240, .bf16⟩
  | .hbm, ⟨1, _⟩ => ⟨S1x1024x2048, .f32⟩
  | .hbm, ⟨2, _⟩ => ⟨S1x1024x2048, .f32⟩
  | .hbm, ⟨3, _⟩ => ⟨S1x2048x2048, .f32⟩
  | .hbm, ⟨4, _⟩ => ⟨S1x2048x11264, .f32⟩
  | .hbm, ⟨5, _⟩ => ⟨S1x5632x2048, .f32⟩
  | .hbm, ⟨6, _⟩ => ⟨S1x2048x2048, .f32⟩
  | .hbm, ⟨7, _⟩ => ⟨S1x256x2048, .f32⟩
  | .hbm, ⟨8, _⟩ => ⟨S8x2048x10240, .f32⟩
  | .hbm, ⟨9, _⟩ => ⟨S8x2048x1024, .f32⟩
  | .hbm, ⟨10, _⟩ => ⟨S8x2048x8x128, .f32⟩
  | .hbm, ⟨11, _⟩ => ⟨S8x2048x1024, .f32⟩
  | .hbm, ⟨12, _⟩ => ⟨S8x2048x8x128, .f32⟩
  | .hbm, ⟨13, _⟩ => ⟨S8x2048x1024, .f32⟩
  | .hbm, ⟨14, _⟩ => ⟨S8x2048x8x128, .f32⟩
  | .hbm, ⟨15, _⟩ => ⟨S8x8x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .i1⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S_, .f32⟩
  | .hbm, ⟨41, _⟩ => ⟨S_, .f32⟩
  | .hbm, ⟨42, _⟩ => ⟨S8x8x2048x2048, .i1⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S_, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S_, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .i1⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x2048x2048, .f32⟩
  | .hbm, ⟨67, _⟩ => ⟨S_, .f32⟩
  | .hbm, ⟨68, _⟩ => ⟨S_, .f32⟩
  | .hbm, ⟨69, _⟩ => ⟨S8x8x2048x2048, .i1⟩
  | .hbm, ⟨70, _⟩ => ⟨S8x8x2048x2048, .f32⟩
  | .hbm, ⟨71, _⟩ => ⟨S8x8x2048x2048, .f32⟩
  | .hbm, ⟨72, _⟩ => ⟨S8x8x128x2048, .f32⟩
  | .hbm, ⟨73, _⟩ => ⟨S8x2048x8x128, .f32⟩
  | .hbm, ⟨74, _⟩ => ⟨S8x2048x1024, .f32⟩
  | .hbm, ⟨75, _⟩ => ⟨S8x2048x1024, .bf16⟩
  | .hbm, ⟨76, _⟩ => ⟨S1024x2048, .f32⟩
  | .hbm, ⟨77, _⟩ => ⟨S1024x2048, .bf16⟩
  | .hbm, ⟨78, _⟩ => ⟨S1024x2048, .f32⟩
  | .hbm, ⟨79, _⟩ => ⟨S1024x2048, .bf16⟩
  | .hbm, ⟨80, _⟩ => ⟨S2048x2048, .f32⟩
  | .hbm, ⟨81, _⟩ => ⟨S2048x2048, .bf16⟩
  | .hbm, ⟨82, _⟩ => ⟨S2048x11264, .f32⟩
  | .hbm, ⟨83, _⟩ => ⟨S2048x11264, .bf16⟩
  | .hbm, ⟨84, _⟩ => ⟨S5632x2048, .f32⟩
  | .hbm, ⟨85, _⟩ => ⟨S5632x2048, .bf16⟩
  | .hbm, ⟨86, _⟩ => ⟨S2048x2048, .f32⟩
  | .hbm, ⟨87, _⟩ => ⟨S2048x2048, .bf16⟩
  | .hbm, ⟨88, _⟩ => ⟨S256x2048, .f32⟩
  | .hbm, ⟨89, _⟩ => ⟨S256x2048, .bf16⟩
  | _, _ => ⟨S8x2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v16 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v17 : Ref sig .tc := ⟨.hbm, 44, rfl⟩
abbrev main_call2_cst : Ref sig .tc := ⟨.hbm, 45, rfl⟩
abbrev main_call2_v0 : Ref sig .tc := ⟨.hbm, 46, rfl⟩
abbrev main_v18 : Ref sig .tc := ⟨.hbm, 47, rfl⟩
abbrev main_v19 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_0 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩

abbrev nD : Nat := 1
abbrev τ : Topo := Topo.v7x

variable {F : FTy → Type} [FloatOps F]
-- ==== Proof.InProjValue.lean ====
/-
  The value of the projection call, over the real numbers: the array that the kernel's run leaves is the reference's
  normalized and projected rows on the same arguments, the queries' columns scaled.
-/
module

public import proofs.«01_k».proof.Proof.Gen.InProjIdeal.Frame
public import proofs.«01_k».proof.Proof.Gen.InProjRefIdeal.Read
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- The reference's result on the kernel's arguments. -/
abbrev result (c : Dev nD) : FVec Ideal Cert.InProjRefIdeal.S16384x10240 .bf16 :=
  Cert.InProjRefIdeal.Read.val_main_v26 (F := Ideal)
    (m ((c.tc : Thread nD τ).loc main_arg0)) (m ((c.tc : Thread nD τ).loc main_arg1))
    (m ((c.tc : Thread nD τ).loc main_arg2))

/-- The factor of column `j`: the attention scale on the two queries' columns, one on all others. -/
def factor (j : ℕ) : EReal :=
  if j < 1024 ∨ (3072 ≤ j ∧ j < 4096) then Ideal.ofBits .f32 0x3DB504F3#32 else 1

/-- The reference's entry is the projection's entry times its column's factor. -/
theorem reference_factor (x0 : FVec Ideal Cert.InProjRefIdeal.S8x2048x2048 .f32) (x1 : FVec Ideal Cert.InProjRefIdeal.S1x2048 .f32)
    (x2 : FVec Ideal Cert.InProjRefIdeal.S1x2048x10240 .f32) (r : Fin 16384) (j : Fin 10240) :
    Cert.InProjRefIdeal.Read.val_main_v26 (F := Ideal) x0 x1 x2 (ix2 r j)
    = Cert.InProjRefIdeal.Read.val_main_v16 (F := Ideal) x0 x1 x2 (ix2 r j) * factor j.val := by
  unfold factor
  pointwise [
    Cert.InProjRefIdeal.Read.val_main_v17, Cert.InProjRefIdeal.Read.val_main_cst_2,
    Cert.InProjRefIdeal.Read.val_main_v18, Cert.InProjRefIdeal.Read.val_main_v19,
    Cert.InProjRefIdeal.Read.val_main_v20, Cert.InProjRefIdeal.Read.val_main_v21,
    Cert.InProjRefIdeal.Read.val_main_cst_3, Cert.InProjRefIdeal.Read.val_main_v22,
    Cert.InProjRefIdeal.Read.val_main_v23, Cert.InProjRefIdeal.Read.val_main_v24,
    Cert.InProjRefIdeal.Read.val_main_v25, Cert.InProjRefIdeal.Read.val_main_v26]
  have hj := j.isLt
  by_cases h1 : j.val < 1024
  · simp only [h1, dif_pos, true_or, if_true]
  · by_cases h2 : j.val - 1024 < 2048
    · have h3 : ¬(j.val < 1024 ∨ 3072 ≤ j.val ∧ j.val < 4096) := by omega
      have e : (⟨1024 + (j.val - 1024), by omega⟩ : Fin 10240) = j := Fin.ext (by show 1024 + (j.val - 1024) = j.val; omega)
      simp only [dif_neg h1, dif_pos h2, if_neg h3, mul_one]
      exact congrArg (fun k => Cert.InProjRefIdeal.Read.val_main_v16 (F := Ideal) x0 x1 x2 (ix2 r k)) e
    · by_cases h4 : j.val - 1024 - 2048 < 1024
      · have h3 : j.val < 1024 ∨ 3072 ≤ j.val ∧ j.val < 4096 := by omega
        have e : (⟨3072 + (j.val - 1024 - 2048), by omega⟩ : Fin 10240) = j :=
          Fin.ext (by show 3072 + (j.val - 1024 - 2048) = j.val; omega)
        simp only [dif_neg h1, dif_neg h2, dif_pos h4, if_pos h3]
        exact congrArg (fun k => Cert.InProjRefIdeal.Read.val_main_v16 (F := Ideal) x0 x1 x2 (ix2 r k)
          * Ideal.ofBits .f32 0x3DB504F3#32) e
      · have h3 : ¬(j.val < 1024 ∨ 3072 ≤ j.val ∧ j.val < 4096) := by omega
        have e : (⟨4096 + (j.val - 1024 - 2048 - 1024), by omega⟩ : Fin 10240) = j :=
          Fin.ext (by show 4096 + (j.val - 1024 - 2048 - 1024) = j.val; omega)
        simp only [dif_neg h1, dif_neg h2, dif_neg h4, if_neg h3, mul_one]
        exact congrArg (fun k => Cert.InProjRefIdeal.Read.val_main_v16 (F := Ideal) x0 x1 x2 (ix2 r k)) e

/-- The scale row that the host makes, by comparing each column's number with the bounds of the queries' columns. -/
def hostScale : FVec Ideal S1x10240 .f32 :=
  select (ori (cmpi .slt (broadcastInDim S1x10240 ![1] bcast_S10240_S1x10240_1 (iotaInDim S10240 32 0))
      (broadcastInDim S1x10240 ![] bcast_S_S1x10240 (constantI S_ 32 1024#32)))
    (andi (cmpi .sge (broadcastInDim S1x10240 ![1] bcast_S10240_S1x10240_1 (iotaInDim S10240 32 0))
        (broadcastInDim S1x10240 ![] bcast_S_S1x10240 (constantI S_ 32 3072#32)))
      (cmpi .slt (broadcastInDim S1x10240 ![1] bcast_S10240_S1x10240_1 (iotaInDim S10240 32 0))
        (broadcastInDim S1x10240 ![] bcast_S_S1x10240 (constantI S_ 32 4096#32)))))
    (broadcastInDim S1x10240 ![] bcast_S_S1x10240 (constant (F := Ideal) S_ .f32 0x3DB504F3#32))
    (broadcastInDim S1x10240 ![] bcast_S_S1x10240 (constant (F := Ideal) S_ .f32 0x3F800000#32))

/-- That row is what the kernel's scale operand holds. -/
theorem host_scale (c : Dev nD) : V m c main_v16 = hostScale := by
  unfold V
  simp only [hostOps0, hostOps0_1, hostOps0_2, List.flatten_cons, List.flatten_nil, List.cons_append, List.nil_append]
  after_results
  rfl

/-- The comparisons of a column's number, as 32-bit words, say whether it is a queries' column. -/
theorem column_flag (j : ℕ) (hj : j < 10240) :
    IntOp.ori (IntOp.cmpi .slt (BitVec.ofNat 32 j) 1024#32)
      (IntOp.andi (IntOp.cmpi .sge (BitVec.ofNat 32 j) 3072#32) (IntOp.cmpi .slt (BitVec.ofNat 32 j) 4096#32))
    = if j < 1024 ∨ 3072 ≤ j ∧ j < 4096 then 1#1 else 0#1 := by
  have e : (BitVec.ofNat 32 j).toInt = j := by
    rw [BitVec.toInt_eq_toNat_cond, BitVec.toNat_ofNat, Nat.mod_eq_of_lt (by omega), if_pos (by omega)]
  have e1 : (1024#32).toInt = 1024 := by decide
  have e2 : (3072#32).toInt = 3072 := by decide
  have e3 : (4096#32).toInt = 4096 := by decide
  show BitVec.ofBool ((BitVec.ofNat 32 j).slt 1024#32) ||| (BitVec.ofBool ((3072#32).sle (BitVec.ofNat 32 j))
    &&& BitVec.ofBool ((BitVec.ofNat 32 j).slt 4096#32)) = _
  unfold BitVec.slt BitVec.sle
  rw [e, e1, e2, e3]
  by_cases h1 : j < 1024 <;> by_cases h2 : 3072 ≤ j <;> by_cases h3 : j < 4096 <;>
    simp only [h1, h2, h3, decide_true, decide_false, true_or, or_true, false_or, and_true, true_and, and_false, false_and,
      if_true, if_false, show ((j : ℤ) < 1024) ↔ j < 1024 by omega, show ((3072 : ℤ) ≤ j) ↔ 3072 ≤ j by omega,
      show ((j : ℤ) < 4096) ↔ j < 4096 by omega] <;> decide

/-- Its entries are the columns' factors. -/
theorem host_factor (c : Dev nD) (j : Fin 10240) : V m c main_v16 (ix2 0 j) = factor j.val := by
  rw [host_scale]
  have hj := j.isLt
  unfold factor
  pointwise [hostScale]
  rw [column_flag j.val hj]
  split_ifs <;> rfl

/-- Where each window's block lies at grid point `t`: the five points of a run share their 1024 rows and take the columns
    2048 at a time. -/
theorem blockIndex : ∀ t : Fin cfg0.N, win0_0.index t = ![t.val / 5, 0] ∧ win0_1.index t = ![0, 0]
    ∧ win0_2.index t = ![0, t.val % 5] ∧ win0_3.index t = ![0, t.val % 5] ∧ win0_4.index t = ![t.val / 5, t.val % 5] :=
  (by decide +kernel : ∀ t : Fin grid0.N, _)

/-- Two points of one run read the same rows. -/
theorem same_rows (c : Dev nD) (s t : Fin cfg0.N) (h : s.val / 5 = t.val / 5) : iblk m c 0 s = iblk m c 0 t := by
  funext j
  blk_point [iblk, V, blockIndex s, blockIndex t]

/-- Every point reads the same gains. -/
theorem same_gain (c : Dev nD) (s t : Fin cfg0.N) : iblk m c 1 s = iblk m c 1 t := by
  funext j
  blk_point [iblk, V, blockIndex s, blockIndex t]

/-- What the carried buffer holds after a point: the normalized rows of that point's run. -/
theorem carried (c : Dev nD) : ∀ (n : ℕ) (h : n < cfg0.N),
    (outsAt0 m c n h).2 = k0_pay1 (F := Ideal) (iblk m c 0 ⟨n, h⟩) (iblk m c 1 ⟨n, h⟩) := by
  intro n
  induction n with
  | zero =>
    intro h
    rw [outsAt0_A m c ⟨0, h⟩ rfl]
    frame_out
  | succ n ih =>
    intro h
    by_cases h0 : (n + 1) % 5 = 0
    · rw [outsAt0_A m c ⟨n + 1, h⟩ h0]
      frame_out
    · rw [outsAt0_B m c ⟨n + 1, h⟩ h0]
      frame_out
      rw [← same_rows m c ⟨n, by omega⟩ ⟨n + 1, h⟩ (by show n / 5 = (n + 1) / 5; omega), ← same_gain m c ⟨n, by omega⟩ ⟨n + 1, h⟩]
      exact ih _

/-- The row of the row arrays that row `a` of grid point `t`'s blocks is. -/
abbrev row (t : Fin cfg0.N) (a : Fin 1024) : Fin 16384 :=
  ⟨t.val / 5 * 1024 + a.val, by have : t.val < 80 := t.isLt; have := a.isLt; omega⟩

/-- The column of the projection that column `k` of grid point `t`'s blocks is. -/
abbrev col (t : Fin cfg0.N) (k : Fin 2048) : Fin 10240 :=
  ⟨t.val % 5 * 2048 + k.val, by have := k.isLt; omega⟩

/-- The index in the result of an index of its block. -/
theorem result_index (t : Fin cfg0.N) (y : S1024x2048.Idx) :
    ((cfg0.win 4).blk t).view.emb y = ix2 (row t (y 0)) (col t (y 1)) := by
  blk_ext [blockIndex t]

/-- The layer's input as the kernel's row operand holds it. -/
theorem host_rows (c : Dev nD) : V m c main_v0
    = shapeCast S16384x2048 (m ((c.tc : Thread nD τ).loc main_arg0)) shapeCasts_S8x2048x2048_S16384x2048 := by
  unfold V
  simp only [hostOps0, hostOps0_1, hostOps0_2, List.flatten_cons, List.flatten_nil, List.cons_append, List.nil_append]
  after_results
  rfl

/-- The gains as the kernel's operand holds them. -/
theorem host_gain (c : Dev nD) : V m c main_v2 = broadcastInDim S1x2048 ![1] bcast_S2048_S1x2048_1
    (shapeCast S2048 (m ((c.tc : Thread nD τ).loc main_arg1)) shapeCasts_S1x2048_S2048) := by
  unfold V
  simp only [hostOps0, hostOps0_1, hostOps0_2, List.flatten_cons, List.flatten_nil, List.cons_append, List.nil_append]
  after_results
  rfl

/-- The weight as the kernel's operand holds it. -/
theorem host_weight (c : Dev nD) : V m c main_v4 = truncf (F := Ideal) .bf16
    (shapeCast S2048x10240 (m ((c.tc : Thread nD τ).loc main_arg2)) shapeCasts_S1x2048x10240_S2048x10240)
    bitsLt_bf16_f32 := by
  unfold V
  simp only [hostOps0, hostOps0_1, hostOps0_2, List.flatten_cons, List.flatten_nil, List.cons_append, List.nil_append]
  after_results
  rfl

/-- A row of the flattened input is a row of one of its sequences. -/
theorem flat_rows (x : FVec Ideal S8x2048x2048 .f32) (r : Fin 16384) (k : Fin 2048) :
    shapeCast S16384x2048 x shapeCasts_S8x2048x2048_S16384x2048 (ix2 r k)
    = x (ix3 ⟨r.val / 2048, by omega⟩ ⟨r.val % 2048, by omega⟩ k) := by
  pointwise

/-- The weight without its leading axis of one. -/
theorem flat_weight (x : FVec Ideal S1x2048x10240 .f32) (a : Fin 2048) (k : Fin 10240) :
    truncf (F := Ideal) .bf16 (shapeCast S2048x10240 x shapeCasts_S1x2048x10240_S2048x10240) bitsLt_bf16_f32 (ix2 a k)
    = x (ix3 0 a k) := by
  pointwise

/-- The input rows, counted sequence by sequence. -/
theorem read_0 (c : Dev nD) (t : Fin cfg0.N) (a : Fin 1024) (k : Fin 2048) :
    iblk m c 0 t (ix2 a k) = m ((c.tc : Thread nD τ).loc main_arg0)
      (ix3 ⟨(row t a).val / 2048, by omega⟩ ⟨(row t a).val % 2048, by omega⟩ k) := by
  have e : iblk m c 0 t (ix2 a k) = V m c main_v0 (ix2 (row t a) k) := by
    blk_point [iblk, blockIndex t]
  rw [e, host_rows]
  exact flat_rows _ _ _

/-- The gains. -/
theorem read_1 (c : Dev nD) (t : Fin cfg0.N) (k : Fin 2048) :
    iblk m c 1 t (ix2 0 k) = m ((c.tc : Thread nD τ).loc main_arg1) (ix2 0 k) := by
  have e : iblk m c 1 t (ix2 0 k) = V m c main_v2 (ix2 0 k) := by
    blk_point [iblk, blockIndex t]
  rw [e, host_gain]
  pointwise

/-- The weight's columns. -/
theorem read_2 (c : Dev nD) (t : Fin cfg0.N) (a k : Fin 2048) :
    iblk m c 2 t (ix2 a k) = m ((c.tc : Thread nD τ).loc main_arg2) (ix3 0 a (col t k)) := by
  have e : iblk m c 2 t (ix2 a k) = V m c main_v4 (ix2 a (col t k)) := by
    blk_point [iblk, blockIndex t]
  rw [e, host_weight]
  exact flat_weight _ _ _

/-- The columns' factors. -/
theorem read_3 (c : Dev nD) (t : Fin cfg0.N) (k : Fin 2048) :
    iblk m c 3 t (ix2 0 k) = factor (col t k).val := by
  have e : iblk m c 3 t (ix2 0 k) = V m c main_v16 (ix2 0 (col t k)) := by
    blk_point [iblk, blockIndex t]
  rw [e, host_factor]

/-- One entry of the block that the body stores at grid point `t` is the reference's entry at its row and column. -/
theorem entry (c : Dev nD) (t : Fin cfg0.N) (a : Fin 1024) (k : Fin 2048) :
    k0_pay2 (F := Ideal) (k0_pay1 (iblk m c 0 t) (iblk m c 1 t)) (iblk m c 2 t) (iblk m c 3 t) (ix2 a k)
    = result m c (ix2 (row t a) (col t k)) := by
  refine Eq.trans ?_ (reference_factor _ _ _ _ _).symm
  pointwise [k0_pay1, k0_pay2,
    Cert.InProjRefIdeal.Read.val_main_v0, Cert.InProjRefIdeal.Read.val_main_cst, Cert.InProjRefIdeal.Read.val_main_v1,
    Cert.InProjRefIdeal.Read.val_main_v2, Cert.InProjRefIdeal.Read.val_main_cst_0,
    Cert.InProjRefIdeal.Read.val_main_v3, Cert.InProjRefIdeal.Read.val_main_v4,
    Cert.InProjRefIdeal.Read.val_main_cst_1, Cert.InProjRefIdeal.Read.val_main_v5,
    Cert.InProjRefIdeal.Read.val_main_v6, Cert.InProjRefIdeal.Read.val_main_v7, Cert.InProjRefIdeal.Read.val_main_v8,
    Cert.InProjRefIdeal.Read.val_main_v9, Cert.InProjRefIdeal.Read.val_main_v10, Cert.InProjRefIdeal.Read.val_main_v11,
    Cert.InProjRefIdeal.Read.val_main_v12, Cert.InProjRefIdeal.Read.val_main_v13,
    Cert.InProjRefIdeal.Read.val_main_v14, Cert.InProjRefIdeal.Read.val_main_v15,
    Cert.InProjRefIdeal.Read.val_main_v16, zero_add]
  simp only [read_0, read_1, read_2, read_3]

/-- The array the kernel leaves is the reference's result. -/
theorem final (c : Dev nD) : (dats m 0 c).arrAt 4 (cfgs 0).N = result m c := by
  refine (dats m 0 c).arrAt_eq_of_covers 4 _ (by decide +kernel) fun t _ y => ?_
  blk_simp
  rw [after0_4]
  refine Eq.trans ?_ (congrArg (result m c) (result_index t y)).symm
  refine Eq.trans ?_ (entry m c t (y 0) (y 1))
  refine Eq.trans ?_ (congrArg _ (eq_ix2 (n0 := 1024) (n1 := 2048) y))
  by_cases h : t.val % 5 = 0
  · rw [outsAt0_A m c t h]
    frame_out
  · rw [outsAt0_B m c t h]
    frame_out
    rw [read_unread_whole, carried m c (t.val - 1) _, same_rows m c ⟨t.val - 1, _⟩ t (by show (t.val - 1) / 5 = t.val / 5; omega),
      same_gain m c ⟨t.val - 1, _⟩ t]

end Cert.InProjIdeal.Value

end
-- ==== Proof.FfnValue.lean ====
/-
  The value of the feed-forward call, over the real numbers: the array that the kernel's run leaves is the reference's
  gated feed-forward on the same arguments.
-/
module

public import proofs.«01_k».proof.Proof.Gen.FfnIdeal.Frame
public import proofs.«01_k».proof.Proof.Gen.FfnRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The logistic function is the quotient that the reference writes out. -/
theorem logistic_eq (x : EReal) : Ideal.logistic x = Ideal.div 1 (1 + Ideal.exp (-x)) := rfl

/-- The reference's result on the kernel's arguments. -/
abbrev result (c : Dev nD) : FVec Ideal Cert.FfnRefIdeal.S16384x2048 .f32 :=
  Cert.FfnRefIdeal.Read.val_main_v8 (F := Ideal)
    (m ((c.tc : Thread nD τ).loc main_arg0)) (m ((c.tc : Thread nD τ).loc main_arg1))
    (m ((c.tc : Thread nD τ).loc main_arg2))

/-- Where each window's block lies at grid point `t`: the eleven points of a run share their rows and take the hidden
    columns 512 at a time, the gate's from the first half of the weight and the other factor's from the second. -/
theorem blockIndex : ∀ t : Fin cfg0.N, win0_0.index t = ![t.val / 11, 0] ∧ win0_1.index t = ![0, t.val % 11]
    ∧ win0_2.index t = ![0, 11 + t.val % 11] ∧ win0_3.index t = ![t.val % 11, 0] ∧ win0_4.index t = ![t.val / 11, 0] :=
  (by decide +kernel : ∀ t : Fin grid0.N, _)

/-- The accumulator is filled with zeros. -/
theorem fill_zero (j : S1024x2048.Idx) : k0_pay1 (F := Ideal) j = 0 := by
  pointwise! [k0_pay1]

/-- A step adds its own 512 hidden columns' part to what the accumulator held. -/
theorem step_add (v3 : Vec Ideal S1024x2048 .bf16) (v4 v6 v12 v14 : Vec Ideal S2048x256 .bf16)
    (v20 : Vec Ideal S1024x2048 .f32) (v23 : Vec Ideal S512x2048 .bf16) (j : S1024x2048.Idx) :
    k0_pay2 v3 v4 v6 v12 v14 v20 v23 j = v20 j + k0_pay2 v3 v4 v6 v12 v14 (fun _ => 0) v23 j := by
  pointwise [k0_pay2]

/-- A sum over the hidden columns is the steps' sum of the sums over their two halves of 256 columns. -/
theorem hidden_sum (f : Fin 5632 → EReal) :
    ∑ l, f l = ∑ s : Fin 11, ((∑ k : Fin 256, f ⟨s.val * 512 + k.val, by omega⟩)
      + ∑ k : Fin 256, f ⟨s.val * 512 + (256 + k.val), by omega⟩) := by
  rw [Fin.sum_univ_tiles 11 512 rfl f]
  exact Fin.sum_fin_congr fun s => Fin.sum_univ_two_halves 256 256 rfl _

set_option maxHeartbeats 4000000 in
/-- The array the kernel leaves is the reference's result. -/
theorem final (c : Dev nD) : (dats m 0 c).arrAt 4 (cfgs 0).N = result m c := by
  refine (dats m 0 c).arrAt_eq_of_covers 4 _ (by decide +kernel) fun t hf y => ?_
  blk_simp
  rw [after0_4, Pipeline.eq_sum_fin_of_reset_step_apply_of_flush (fun n h => outsAt0 m c n h) 11 (fun _ => 0) _
    (fun t h j => by rw [outsAt0_A m c t h]; frame_out; rw [step_add, fill_zero])
    (fun t h j => by rw [outsAt0_B m c t h]; frame_out; rw [step_add])
    t ((flush0_4 t).mp hf) _, zero_add]
  pointwise [k0_pay2,
    Cert.FfnRefIdeal.Read.val_main_v0, Cert.FfnRefIdeal.Read.val_main_v1, Cert.FfnRefIdeal.Read.val_main_v2,
    Cert.FfnRefIdeal.Read.val_main_v3, Cert.FfnRefIdeal.Read.val_main_v4, Cert.FfnRefIdeal.Read.val_main_call0_v0,
    Cert.FfnRefIdeal.Read.val_main_call0_v1, Cert.FfnRefIdeal.Read.val_main_call0_cst,
    Cert.FfnRefIdeal.Read.val_main_call0_v2, Cert.FfnRefIdeal.Read.val_main_call0_v3,
    Cert.FfnRefIdeal.Read.val_main_call0_cst_0, Cert.FfnRefIdeal.Read.val_main_call0_v4,
    Cert.FfnRefIdeal.Read.val_main_call0_v5, Cert.FfnRefIdeal.Read.val_main_v5, Cert.FfnRefIdeal.Read.val_main_v6,
    Cert.FfnRefIdeal.Read.val_main_v7, Cert.FfnRefIdeal.Read.val_main_v8, logistic_eq, zero_add]
  rw [hidden_sum]
  refine Fin.sum_fin_congr fun s => ?_
  refine congrArg₂ (· + ·) (Fin.sum_fin_congr fun k => ?_) (Fin.sum_fin_congr fun k => ?_)
  · blk_point [iblk, V, blockIndex t, blockIndex ⟨_, Pipeline.run_point_lt_of_flush t ((flush0_4 t).mp hf) s⟩]
  · blk_point [iblk, V, blockIndex t, blockIndex ⟨_, Pipeline.run_point_lt_of_flush t ((flush0_4 t).mp hf) s⟩]

end Cert.FfnIdeal.Value

end
-- ==== Proof.MixValue.lean ====
/-
  The values of the call that joins the two attentions and the gates and opens the feed-forward, over the real numbers:
  the first residual and the normalized rows that the kernel's run leaves are the reference's on the same arguments.
-/
module

public import proofs.«01_k».proof.Proof.Gen.MixIdeal.Frame
public import proofs.«01_k».proof.Proof.Gen.MixRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen

variable (m : (ℓ : Loc nD τ sig) → Buf (Elt Ideal) ℓ)

/-- The logistic function is the quotient that the reference writes out. -/
theorem logistic_eq (x : EReal) : Ideal.logistic x = Ideal.div 1 (1 + Ideal.exp (-x)) := rfl

/-- The reference's first residual on the kernel's arguments. -/
abbrev residual (c : Dev nD) : FVec Ideal Cert.MixRefIdeal.S16384x2048 .f32 :=
  Cert.MixRefIdeal.Read.val_main_v27 (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- The reference's normalized rows on the kernel's arguments. -/
abbrev normed (c : Dev nD) : FVec Ideal Cert.MixRefIdeal.S16384x2048 .bf16 :=
  Cert.MixRefIdeal.Read.val_main_v42 (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- Where each window's block lies at grid point `t`: 256 rows of every row array (of the projection, the gates' columns
    apart); the weights and the gain are whole. -/
theorem blockIndex : ∀ t : Fin cfg0.N, win0_0.index t = ![t.val, 0] ∧ win0_1.index t = ![t.val, 0]
    ∧ win0_2.index t = ![t.val, 3] ∧ win0_3.index t = ![t.val, 4] ∧ win0_4.index t = ![t.val, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] :=
  (by decide +kernel : ∀ t : Fin grid0.N, _)

/-- The row of the row arrays that row `a` of grid point `t`'s blocks is. -/
abbrev row (t : Fin cfg0.N) (a : Fin 256) : Fin 16384 :=
  ⟨t.val * 256 + a.val, by have : t.val < 64 := t.isLt; have := a.isLt; omega⟩

/-- The index in the residual of an index of its block. -/
theorem residual_index (t : Fin cfg0.N) (y : S256x2048.Idx) :
    ((cfg0.win 9).blk t).view.emb y = ix2 (row t (y 0)) (y 1) := by
  blk_ext [blockIndex t]

/-- The index in the normalized rows of an index of their block. -/
theorem normed_index (t : Fin cfg0.N) (y : S256x2048.Idx) :
    ((cfg0.win 10).blk t).view.emb y = ix2 (row t (y 0)) (y 1) := by
  blk_ext [blockIndex t]

/-- The first attention's rows. -/
theorem read_0 (c : Dev nD) (t : Fin cfg0.N) (a : Fin 256) (k : Fin 1024) :
    iblk m c 0 t (ix2 a k) = m ((c.tc : Thread nD τ).loc main_arg0) (ix2 (row t a) k) := by
  blk_point [iblk, V, blockIndex t]

/-- The second attention's rows. -/
theorem read_1 (c : Dev nD) (t : Fin cfg0.N) (a : Fin 256) (k : Fin 1024) :
    iblk m c 1 t (ix2 a k) = m ((c.tc : Thread nD τ).loc main_arg1) (ix2 (row t a) k) := by
  blk_point [iblk, V, blockIndex t]

/-- The first gate's columns of the projection. -/
theorem read_2 (c : Dev nD) (t : Fin cfg0.N) (a : Fin 256) (k : Fin 2048) :
    iblk m c 2 t (ix2 a k) = m ((c.tc : Thread nD τ).loc main_arg2) (ix2 (row t a) ⟨6144 + k.val, by omega⟩) := by
  blk_point [iblk, V, blockIndex t]

/-- The second gate's columns of the projection. -/
theorem read_3 (c : Dev nD) (t : Fin cfg0.N) (a : Fin 256) (k : Fin 2048) :
    iblk m c 3 t (ix2 a k) = m ((c.tc : Thread nD τ).loc main_arg2) (ix2 (row t a) ⟨8192 + k.val, by omega⟩) := by
  blk_point [iblk, V, blockIndex t]

/-- The layer's input rows, counted sequence by sequence. -/
theorem read_4 (c : Dev nD) (t : Fin cfg0.N) (a : Fin 256) (k : Fin 2048) :
    iblk m c 4 t (ix2 a k) = m ((c.tc : Thread nD τ).loc main_arg3)
      (ix3 ⟨(row t a).val / 2048, by omega⟩ ⟨(row t a).val % 2048, by omega⟩ k) := by
  blk_point [iblk, V, blockIndex t]

/-- The first attention's output weight. -/
theorem read_5 (c : Dev nD) (t : Fin cfg0.N) (a : Fin 1024) (k : Fin 2048) :
    iblk m c 5 t (ix2 a k) = m ((c.tc : Thread nD τ).loc main_arg4) (ix2 a k) := by
  blk_point [iblk, V, blockIndex t]

/-- The second attention's output weight. -/
theorem read_6 (c : Dev nD) (t : Fin cfg0.N) (a : Fin 1024) (k : Fin 2048) :
    iblk m c 6 t (ix2 a k) = m ((c.tc : Thread nD τ).loc main_arg5) (ix2 a k) := by
  blk_point [iblk, V, blockIndex t]

/-- The mixed rows' output weight. -/
theorem read_7 (c : Dev nD) (t : Fin cfg0.N) (a : Fin 2048) (k : Fin 2048) :
    iblk m c 7 t (ix2 a k) = m ((c.tc : Thread nD τ).loc main_arg6) (ix2 a k) := by
  blk_point [iblk, V, blockIndex t]

/-- The normalization's gains. -/
theorem read_8 (c : Dev nD) (t : Fin cfg0.N) (k : Fin 2048) :
    iblk m c 8 t (ix2 0 k) = m ((c.tc : Thread nD τ).loc main_arg7) (ix2 0 k) := by
  blk_point [iblk, V, blockIndex t]

set_option maxHeartbeats 4000000 in
/-- One entry of the residual's block at grid point `t` is the reference's entry at the row that the block's row is. -/
theorem residual_entry (c : Dev nD) (t : Fin cfg0.N) (a : Fin 256) (k : Fin 2048) :
    k0_pay2 (F := Ideal) (iblk m c 0 t) (iblk m c 5 t) (iblk m c 1 t) (iblk m c 6 t) (iblk m c 2 t) (iblk m c 3 t) (iblk m c 4 t)
      (iblk m c 7 t) (ix2 a k)
    = residual m c (ix2 (row t a) k) := by
  pointwise [k0_pay2,
    Cert.MixRefIdeal.Read.val_main_v0, Cert.MixRefIdeal.Read.val_main_v1, Cert.MixRefIdeal.Read.val_main_v2,
    Cert.MixRefIdeal.Read.val_main_v3, Cert.MixRefIdeal.Read.val_main_v4, Cert.MixRefIdeal.Read.val_main_cst,
    Cert.MixRefIdeal.Read.val_main_v5, Cert.MixRefIdeal.Read.val_main_v6, Cert.MixRefIdeal.Read.val_main_cst_0,
    Cert.MixRefIdeal.Read.val_main_v7, Cert.MixRefIdeal.Read.val_main_v8, Cert.MixRefIdeal.Read.val_main_v9,
    Cert.MixRefIdeal.Read.val_main_v10, Cert.MixRefIdeal.Read.val_main_v11, Cert.MixRefIdeal.Read.val_main_v12,
    Cert.MixRefIdeal.Read.val_main_v13, Cert.MixRefIdeal.Read.val_main_v14, Cert.MixRefIdeal.Read.val_main_cst_1,
    Cert.MixRefIdeal.Read.val_main_v15, Cert.MixRefIdeal.Read.val_main_v16, Cert.MixRefIdeal.Read.val_main_cst_2,
    Cert.MixRefIdeal.Read.val_main_v17, Cert.MixRefIdeal.Read.val_main_v18, Cert.MixRefIdeal.Read.val_main_v19,
    Cert.MixRefIdeal.Read.val_main_v20, Cert.MixRefIdeal.Read.val_main_v21, Cert.MixRefIdeal.Read.val_main_v22,
    Cert.MixRefIdeal.Read.val_main_v23, Cert.MixRefIdeal.Read.val_main_v24, Cert.MixRefIdeal.Read.val_main_v25,
    Cert.MixRefIdeal.Read.val_main_v26, Cert.MixRefIdeal.Read.val_main_v27, logistic_eq, zero_add]
  simp only [read_0, read_1, read_2, read_3, read_4, read_5, read_6, read_7]

/-- The first residual that the kernel leaves is the reference's. -/
theorem final_residual (c : Dev nD) : (dats m 0 c).arrAt 9 (cfgs 0).N = residual m c := by
  refine (dats m 0 c).arrAt_eq_of_covers 9 _ (by decide +kernel) fun t _ y => ?_
  blk_simp
  rw [after0_9]
  frame_out
  refine Eq.trans ?_ (congrArg (residual m c) (residual_index t y)).symm
  refine Eq.trans (congrArg _ (eq_ix2 (n0 := 256) (n1 := 2048) y)) ?_
  exact residual_entry m c t (y 0) (y 1)

set_option maxHeartbeats 4000000 in
/-- One entry of the normalized rows' block at grid point `t` is the reference's entry at the row that the block's row is. -/
theorem normed_entry (c : Dev nD) (t : Fin cfg0.N) (a : Fin 256) (k : Fin 2048) :
    k0_pay1 (F := Ideal) (k0_pay2 (iblk m c 0 t) (iblk m c 5 t) (iblk m c 1 t) (iblk m c 6 t) (iblk m c 2 t) (iblk m c 3 t) (iblk m c 4 t)
      (iblk m c 7 t)) (k0_pay3 (iblk m c 8 t))
      (k0_pay4 (iblk m c 0 t) (iblk m c 5 t) (iblk m c 1 t) (iblk m c 6 t) (iblk m c 2 t) (iblk m c 3 t) (iblk m c 4 t)
      (iblk m c 7 t)) (ix2 a k)
    = normed m c (ix2 (row t a) k) := by
  pointwise [k0_pay1, k0_pay2, k0_pay3, k0_pay4,
    Cert.MixRefIdeal.Read.val_main_v0, Cert.MixRefIdeal.Read.val_main_v1, Cert.MixRefIdeal.Read.val_main_v2,
    Cert.MixRefIdeal.Read.val_main_v3, Cert.MixRefIdeal.Read.val_main_v4, Cert.MixRefIdeal.Read.val_main_cst,
    Cert.MixRefIdeal.Read.val_main_v5, Cert.MixRefIdeal.Read.val_main_v6, Cert.MixRefIdeal.Read.val_main_cst_0,
    Cert.MixRefIdeal.Read.val_main_v7, Cert.MixRefIdeal.Read.val_main_v8, Cert.MixRefIdeal.Read.val_main_v9,
    Cert.MixRefIdeal.Read.val_main_v10, Cert.MixRefIdeal.Read.val_main_v11, Cert.MixRefIdeal.Read.val_main_v12,
    Cert.MixRefIdeal.Read.val_main_v13, Cert.MixRefIdeal.Read.val_main_v14, Cert.MixRefIdeal.Read.val_main_cst_1,
    Cert.MixRefIdeal.Read.val_main_v15, Cert.MixRefIdeal.Read.val_main_v16, Cert.MixRefIdeal.Read.val_main_cst_2,
    Cert.MixRefIdeal.Read.val_main_v17, Cert.MixRefIdeal.Read.val_main_v18, Cert.MixRefIdeal.Read.val_main_v19,
    Cert.MixRefIdeal.Read.val_main_v20, Cert.MixRefIdeal.Read.val_main_v21, Cert.MixRefIdeal.Read.val_main_v22,
    Cert.MixRefIdeal.Read.val_main_v23, Cert.MixRefIdeal.Read.val_main_v24, Cert.MixRefIdeal.Read.val_main_v25,
    Cert.MixRefIdeal.Read.val_main_v26, Cert.MixRefIdeal.Read.val_main_v27, Cert.MixRefIdeal.Read.val_main_v28,
    Cert.MixRefIdeal.Read.val_main_cst_3, Cert.MixRefIdeal.Read.val_main_v29, Cert.MixRefIdeal.Read.val_main_v30,
    Cert.MixRefIdeal.Read.val_main_cst_4, Cert.MixRefIdeal.Read.val_main_v31, Cert.MixRefIdeal.Read.val_main_v32,
    Cert.MixRefIdeal.Read.val_main_cst_5, Cert.MixRefIdeal.Read.val_main_v33, Cert.MixRefIdeal.Read.val_main_v34,
    Cert.MixRefIdeal.Read.val_main_v35, Cert.MixRefIdeal.Read.val_main_v36, Cert.MixRefIdeal.Read.val_main_v37,
    Cert.MixRefIdeal.Read.val_main_v38, Cert.MixRefIdeal.Read.val_main_v39, Cert.MixRefIdeal.Read.val_main_v40,
    Cert.MixRefIdeal.Read.val_main_v41, Cert.MixRefIdeal.Read.val_main_v42, logistic_eq, zero_add]
  simp only [read_0, read_1, read_2, read_3, read_4, read_5, read_6, read_7, read_8]

/-- The normalized rows that the kernel leaves are the reference's. -/
theorem final_normed (c : Dev nD) : (dats m 0 c).arrAt 10 (cfgs 0).N = normed m c := by
  refine (dats m 0 c).arrAt_eq_of_covers 10 _ (by decide +kernel) fun t _ y => ?_
  blk_simp
  rw [after0_10]
  frame_out
  refine Eq.trans ?_ (congrArg (normed m c) (normed_index t y)).symm
  refine Eq.trans (congrArg _ (eq_ix2 (n0 := 256) (n1 := 2048) y)) ?_
  exact normed_entry m c t (y 0) (y 1)

end Cert.MixIdeal.Value

end
-- ==== Proof.PleValue.lean ====
/-
  The value of the last call (the per-layer embedding and the final normalization), over the real numbers: the array the
  kernel's run leaves is the reference's result on the same arguments.
-/
module

public import proofs.«01_k».proof.Proof.Gen.PleIdeal.Frame
public import proofs.«01_k».proof.Proof.Gen.PleRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen

variable (m : (ℓ : Loc nD τ sig) → Buf (Elt Ideal) ℓ)

/-- The reference's result on the kernel's arguments. -/
abbrev result (c : Dev nD) : FVec Ideal Cert.PleRefIdeal.S16384x2048 .f32 :=
  Cert.PleRefIdeal.Read.val_main_v41 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The logistic function is the quotient that the reference writes out. -/
theorem logistic_eq (x : EReal) : Ideal.logistic x = Ideal.div 1 (1 + Ideal.exp (-x)) := rfl

/-- Where each window's block lies at grid point `t`: 512 rows of the batch-flattened arrays, and for the embedding the
    same rows counted sequence by sequence; the weights and gains are whole. -/
theorem blockIndex : ∀ t : Fin cfg0.N, win0_0.index t = ![t.val, 0] ∧ win0_1.index t = ![t.val, 0]
    ∧ win0_2.index t = ![0, t.val / 4, t.val % 4, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

/-- The inner normalization's gains, as the host passes them on. -/
theorem host_gain (c : Dev nD) (x : Fin 2048) :
    (V m c main_v1 : FVec Ideal S1x2048 .f32) (ix2 0 x) = m ((c.tc : Thread nD τ).loc main_arg3) (ix2 0 x) := by
  have e : V m c main_v1 = broadcastInDim S1x2048 ![1] bcast_S2048_S1x2048_1
      (shapeCast S2048 (m ((c.tc : Thread nD τ).loc main_arg3)) shapeCasts_S1x2048_S2048) := by
    unfold V
    after_results
    rfl
  rw [e]
  generalize m ((c.tc : Thread nD τ).loc main_arg3) = w
  pointwise []

/-- The final normalization's gains, as the host passes them on. -/
theorem host_final_gain (c : Dev nD) (x : Fin 2048) :
    (V m c main_v2 : FVec Ideal S1x2048 .f32) (ix2 0 x) = m ((c.tc : Thread nD τ).loc main_arg4) (ix1 x) := by
  have e : V m c main_v2 = broadcastInDim S1x2048 ![1] bcast_S2048_S1x2048_1 (m ((c.tc : Thread nD τ).loc main_arg4)) := by
    unfold V
    after_results
    rfl
  rw [e]
  generalize m ((c.tc : Thread nD τ).loc main_arg4) = w
  pointwise []

/-- The inner normalization's gains at every grid point. -/
theorem read_3 (c : Dev nD) (t : Fin cfg0.N) (x : Fin 2048) :
    V m c main_v1 ((win0_3.blk t).view.emb (ix2 0 x)) = m ((c.tc : Thread nD τ).loc main_arg3) (ix2 0 x) := by
  refine Eq.trans ?_ (host_gain m c x)
  exact congrArg _ (by blk_ext [blockIndex t])

/-- The final normalization's gains at every grid point. -/
theorem read_4 (c : Dev nD) (t : Fin cfg0.N) (x : Fin 2048) :
    V m c main_v2 ((win0_4.blk t).view.emb (ix2 0 x)) = m ((c.tc : Thread nD τ).loc main_arg4) (ix1 x) := by
  refine Eq.trans ?_ (host_final_gain m c x)
  exact congrArg _ (by blk_ext [blockIndex t])

set_option maxHeartbeats 1600000 in
/-- One entry of the block that the body stores at grid point `t` is the reference's entry at the row that the block's row is. -/
theorem entry (c : Dev nD) (t : Fin cfg0.N) (y) :
    k0_pay1 (F := Ideal) (k0_pay2 (iblk m c 0 t) (iblk m c 1 t) (iblk m c 3 t) (iblk m c 5 t) (iblk m c 2 t) (iblk m c 6 t))
      (k0_pay3 (iblk m c 4 t))
      (k0_pay4 (iblk m c 0 t) (iblk m c 1 t) (iblk m c 3 t) (iblk m c 5 t) (iblk m c 2 t) (iblk m c 6 t))
      (Scalar.ofBits .f32 0x358637BD#32) y
    = result m c (((cfg0.win 7).blk t).view.emb y) := by
  pointwise [k0_pay1, k0_pay2, k0_pay3, k0_pay4, Cert.PleRefIdeal.Read.val_main_v0, Cert.PleRefIdeal.Read.val_main_v1,
    Cert.PleRefIdeal.Read.val_main_cst, Cert.PleRefIdeal.Read.val_main_v2, Cert.PleRefIdeal.Read.val_main_v3,
    Cert.PleRefIdeal.Read.val_main_cst_0, Cert.PleRefIdeal.Read.val_main_v4, Cert.PleRefIdeal.Read.val_main_v5,
    Cert.PleRefIdeal.Read.val_main_cst_1, Cert.PleRefIdeal.Read.val_main_v6, Cert.PleRefIdeal.Read.val_main_v7,
    Cert.PleRefIdeal.Read.val_main_v8, Cert.PleRefIdeal.Read.val_main_v9, Cert.PleRefIdeal.Read.val_main_v10,
    Cert.PleRefIdeal.Read.val_main_v11, Cert.PleRefIdeal.Read.val_main_v12, Cert.PleRefIdeal.Read.val_main_v13,
    Cert.PleRefIdeal.Read.val_main_v14, Cert.PleRefIdeal.Read.val_main_v15, Cert.PleRefIdeal.Read.val_main_v16,
    Cert.PleRefIdeal.Read.val_main_v17, Cert.PleRefIdeal.Read.val_main_v18, Cert.PleRefIdeal.Read.val_main_cst_2,
    Cert.PleRefIdeal.Read.val_main_v19, Cert.PleRefIdeal.Read.val_main_v20, Cert.PleRefIdeal.Read.val_main_cst_3,
    Cert.PleRefIdeal.Read.val_main_v21, Cert.PleRefIdeal.Read.val_main_v22, Cert.PleRefIdeal.Read.val_main_v23,
    Cert.PleRefIdeal.Read.val_main_v24, Cert.PleRefIdeal.Read.val_main_v25, Cert.PleRefIdeal.Read.val_main_v26,
    Cert.PleRefIdeal.Read.val_main_v27, Cert.PleRefIdeal.Read.val_main_v28, Cert.PleRefIdeal.Read.val_main_v29,
    Cert.PleRefIdeal.Read.val_main_cst_4, Cert.PleRefIdeal.Read.val_main_v30, Cert.PleRefIdeal.Read.val_main_v31,
    Cert.PleRefIdeal.Read.val_main_cst_5, Cert.PleRefIdeal.Read.val_main_v32, Cert.PleRefIdeal.Read.val_main_v33,
    Cert.PleRefIdeal.Read.val_main_cst_6, Cert.PleRefIdeal.Read.val_main_v34, Cert.PleRefIdeal.Read.val_main_v35,
    Cert.PleRefIdeal.Read.val_main_v36, Cert.PleRefIdeal.Read.val_main_v37, Cert.PleRefIdeal.Read.val_main_v38,
    Cert.PleRefIdeal.Read.val_main_v39, Cert.PleRefIdeal.Read.val_main_v40, Cert.PleRefIdeal.Read.val_main_v41, zero_add, logistic_eq]
  blk_point [iblk, V, blockIndex t]
  · exact read_3 m c t _
  · refine (read_4 m c t _).trans ?_

    exact congrArg _ (by blk_ext [blockIndex t])

/-- The array the kernel leaves is the reference's result. -/
theorem final (c : Dev nD) : (dats m 0 c).arrAt 7 (cfgs 0).N = result m c := by
  refine (dats m 0 c).arrAt_eq_of_covers 7 _ (by decide +kernel) fun t _ y => ?_
  blk_simp
  rw [after0_7]
  frame_out
  exact entry m c t y

/-- After the host's reshape the call leaves the reference's result, reshaped. -/
theorem final_reshaped (c : Dev nD) :
    Pipeline.afterTail₀ cfgs (dats m) 0 (V0 m) [hostOps1] c main_v4
      = shapeCast S8x2048x2048 (result m c) shapeCasts_S16384x2048_S8x2048x2048 := by
  unfold Pipeline.afterTail₀
  simp only [hostOps1, List.flatten_cons, List.flatten_nil, List.cons_append, List.nil_append]
  after_results
  refine congrArg (fun v => shapeCast S8x2048x2048 v shapeCasts_S16384x2048_S8x2048x2048) ?_
  refine Eq.trans ?_ (final m c)
  exact Pipeline.withArrays_arr spec0 (by decide) c (V0 m c) (fun w => (dats m 0 c).arrAt w (cfgs 0).N) 7

end Cert.PleIdeal.Value

end
-- ==== Proof.Soft.lean ====
/-
  Weighted means with softmax weights over the extended reals: the mean over a band of keys is the mean over all keys when the
  scores outside the band are −∞, and the quotient of the two sums is the sum with the normalized weights.
-/
module

public import Idealize.ShloMosaic.PureOps.Ideal
public import Idealize.ShloMosaic.Lib.Pipeline.ValueKit

@[expose] public section

noncomputable section

namespace Cert.Soft

open Idealize.ShloMosaic

/-- The largest of the scores, −∞ of none. -/
def top {n : ℕ} (z : Fin n → EReal) : EReal := Finset.univ.fold max ⊥ z

/-- The mean of `v` weighted by the exponentials of the scores, as a quotient of two sums. -/
def mean {n : ℕ} (z v : Fin n → EReal) : EReal :=
  Ideal.div (∑ s, Ideal.exp (z s - top z) * v s) (∑ s, Ideal.exp (z s - top z))

/-- `top` is the supremum. -/
theorem top_eq_sup {n : ℕ} (z : Fin n → EReal) : top z = Finset.univ.sup z := rfl

/-- The largest score of a band is the largest of all, when the others are −∞. -/
theorem top_band {n N : ℕ} (e : Fin n → Fin N) (z : Fin N → EReal) (hz : ∀ s, s ∉ Set.range e → z s = ⊥) :
    top (fun k => z (e k)) = top z := by
  rw [top_eq_sup, top_eq_sup]
  refine le_antisymm (Finset.sup_le fun k _ => Finset.le_sup (f := z) (Finset.mem_univ (e k)))
    (Finset.sup_le fun s _ => ?_)
  by_cases h : s ∈ Set.range e
  · obtain ⟨k, rfl⟩ := h
    exact Finset.le_sup (f := fun k => z (e k)) (Finset.mem_univ k)
  · rw [hz s h]; exact bot_le

/-- The exponential of −∞ less anything is zero. -/
theorem exp_bot_sub (x : EReal) : Ideal.exp (⊥ - x) = 0 := by
  rw [EReal.bot_sub]; rfl

/-- The mean over a band is the mean over all keys, when the scores of the others are −∞. -/
theorem mean_band {n N : ℕ} (e : Fin n → Fin N) (he : Function.Injective e) (z v : Fin N → EReal)
    (hz : ∀ s, s ∉ Set.range e → z s = ⊥) : mean (fun k => z (e k)) (fun k => v (e k)) = mean z v := by
  unfold mean
  rw [top_band e z hz]
  congr 1
  · exact Fintype.sum_of_injective e he _ _ (fun s h => by rw [hz s h, exp_bot_sub, zero_mul]) fun _ => rfl
  · exact Fintype.sum_of_injective e he _ _ (fun s h => by rw [hz s h, exp_bot_sub]) fun _ => rfl

/-- A sum of reals, read in the extended reals. -/
theorem coe_sum {n : ℕ} (p : Fin n → ℝ) : ((∑ s, p s : ℝ) : EReal) = ∑ s, (p s : EReal) := by
  induction n with
  | zero => simp
  | succ n ih => rw [Fin.sum_univ_succ, Fin.sum_univ_succ, EReal.coe_add, ih]

/-- A sum times a nonnegative real. -/
theorem sum_mul_real {n : ℕ} (f : Fin n → EReal) (c : ℝ) (hc : 0 ≤ c) : (∑ s, f s) * (c : EReal) = ∑ s, f s * (c : EReal) := by
  induction n with
  | zero => simp
  | succ n ih =>
    rw [Fin.sum_univ_succ, Fin.sum_univ_succ, ← ih,
      EReal.right_distrib_of_nonneg_of_ne_top (by exact_mod_cast hc) (EReal.coe_ne_top c)]

/-- Scores below +∞, one of them above −∞: the quotient is the sum with each weight normalized. -/
theorem mean_eq_sum {n : ℕ} (z v : Fin n → EReal) (hz : ∀ s, z s ≠ ⊤) (s₀ : Fin n) (h₀ : z s₀ ≠ ⊥) :
    mean z v = ∑ s, Ideal.div (Ideal.exp (z s - top z)) (∑ s, Ideal.exp (z s - top z)) * v s := by
  obtain ⟨i, -, hi⟩ := Finset.exists_mem_eq_sup Finset.univ ⟨s₀, Finset.mem_univ s₀⟩ z
  have hle : z s₀ ≤ z i := hi ▸ Finset.le_sup (f := z) (Finset.mem_univ s₀)
  have hib : z i ≠ ⊥ := fun h => h₀ (le_bot_iff.mp (h ▸ hle))
  have hM : top z = z i := hi
  obtain ⟨y, hy⟩ : ∃ y : ℝ, z i = (y : EReal) := ⟨(z i).toReal, (EReal.coe_toReal (hz i) hib).symm⟩
  have hp : ∀ s, ∃ p : ℝ, 0 ≤ p ∧ Ideal.exp (z s - top z) = (p : EReal) := fun s => by
    by_cases h : z s = ⊥
    · exact ⟨0, le_rfl, by rw [h, exp_bot_sub]; rfl⟩
    · refine ⟨Real.exp ((z s).toReal - y), (Real.exp_pos _).le, ?_⟩
      rw [hM, hy]
      conv_lhs => rw [← EReal.coe_toReal (hz s) h]
      rw [← EReal.coe_sub]; rfl
  choose p hp0 hp using hp
  have hpi : p i = 1 := by
    have h := hp i
    rw [hM, hy, ← EReal.coe_sub, sub_self] at h
    have h1 : Ideal.exp ((0 : ℝ) : EReal) = ((1 : ℝ) : EReal) := by
      change ((Real.exp 0 : ℝ) : EReal) = _
      rw [Real.exp_zero]
    exact (EReal.coe_eq_coe_iff.mp (h.symm.trans h1))
  have hP : 0 < ∑ s, p s := lt_of_lt_of_le (hpi ▸ one_pos : (0 : ℝ) < p i)
    (Finset.single_le_sum (f := p) (fun s _ => hp0 s) (Finset.mem_univ i))
  have hS : (∑ s, Ideal.exp (z s - top z)) = ((∑ s, p s : ℝ) : EReal) := by
    rw [coe_sum]; exact Finset.sum_congr rfl fun s _ => hp s
  have hd : ∀ x : EReal, Ideal.div x ((∑ s, p s : ℝ) : EReal) = x * (((∑ s, p s)⁻¹ : ℝ) : EReal) := fun x => by
    unfold Ideal.div
    rw [if_neg (by exact_mod_cast hP.ne'), EReal.coe_inv]
  unfold mean
  rw [hS, hd, sum_mul_real _ _ (inv_nonneg.mpr hP.le)]
  refine Finset.sum_congr rfl fun s _ => ?_
  rw [hd, mul_right_comm]

end Cert.Soft

end
-- ==== Proof.CaTile.lean ====
/-
  One tile of the chunked attention's kernel, over the real numbers: the 128 rows of one head that one store writes are the
  means of the values with the softmax weights of the scores.
-/
module

public import proofs.«01_k».proof.Proof.Gen.CaIdeal.Frame
public import proofs.«01_k».proof.Proof.Soft
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CaIdeal.Tile

open Cert.CaIdeal Cert.CaIdeal.Gen Cert.Soft

/-- The bits of −∞ denote −∞. -/
theorem neg_inf : Ideal.ofBits FTy.f32 4286578688#32 = ⊥ := by
  simp [Ideal.ofBits, Ideal.ieee]

/-- The tile of the rows of the first block, with the keys of that block. -/
def tile1 (q : Vec Ideal S1x128x128 .bf16) (k : Vec Ideal S1x128x128 .bf16) (t : Vec Ideal S1x128x128 .f32)
    (v : Vec Ideal S1x128x128 .bf16) : Vec Ideal S1x128x128 .bf16 :=
  k0_pay13 (k0_pay6 (k0_pay2 q k t)) v

/-- The tile, entry by entry: the mean of the values with the softmax weights of the scores. -/
theorem tile1_at (q : Vec Ideal S1x128x128 .bf16) (k v : Vec Ideal S1x128x128 .bf16) (t : Vec Ideal S1x128x128 .f32)
    (a d : Fin 128) :
    tile1 q k t v (ix3 0 a d) = mean (fun s : Fin 128 => (∑ e : Fin 128, q (ix3 0 a e) * k (ix3 0 s e)) + t (ix3 0 a s))
      (fun s => v (ix3 0 s d)) := by
  pointwise [tile1, k0_pay13, k0_pay6, k0_pay2]
  rw [neg_inf]
  rfl

/-- The tile of the rows of the second block, with the keys of two blocks. -/
def tile2 (q : Vec Ideal S1x128x128 .bf16) (k : Vec Ideal S1x256x128 .bf16) (t : Vec Ideal S1x128x256 .f32)
    (v : Vec Ideal S1x256x128 .bf16) : Vec Ideal S1x128x128 .bf16 :=
  k0_pay14 (k0_pay7 (k0_pay3 q k t)) v

/-- The tile, entry by entry: the mean of the values with the softmax weights of the scores. -/
theorem tile2_at (q : Vec Ideal S1x128x128 .bf16) (k v : Vec Ideal S1x256x128 .bf16) (t : Vec Ideal S1x128x256 .f32)
    (a d : Fin 128) :
    tile2 q k t v (ix3 0 a d) = mean (fun s : Fin 256 => (∑ e : Fin 128, q (ix3 0 a e) * k (ix3 0 s e)) + t (ix3 0 a s))
      (fun s => v (ix3 0 s d)) := by
  pointwise [tile2, k0_pay14, k0_pay7, k0_pay3]
  rw [neg_inf]
  rfl

/-- The tile of the rows of the third block, with the keys of three blocks. -/
def tile3 (q : Vec Ideal S1x128x128 .bf16) (k : Vec Ideal S1x384x128 .bf16) (t : Vec Ideal S1x128x384 .f32)
    (v : Vec Ideal S1x384x128 .bf16) : Vec Ideal S1x128x128 .bf16 :=
  k0_pay20 (k0_pay19 (k0_pay11 (k0_pay4 q k t)) v)

/-- The tile, entry by entry: the mean of the values with the softmax weights of the scores. -/
theorem tile3_at (q : Vec Ideal S1x128x128 .bf16) (k v : Vec Ideal S1x384x128 .bf16) (t : Vec Ideal S1x128x384 .f32)
    (a d : Fin 128) :
    tile3 q k t v (ix3 0 a d) = mean (fun s : Fin 384 => (∑ e : Fin 128, q (ix3 0 a e) * k (ix3 0 s e)) + t (ix3 0 a s))
      (fun s => v (ix3 0 s d)) := by
  pointwise [tile3, k0_pay20, k0_pay19, k0_pay11, k0_pay4]
  rw [neg_inf]
  rfl

/-- The tile of the rows of the fourth block, with the keys of four blocks. -/
def tile4 (q : Vec Ideal S1x128x128 .bf16) (k : Vec Ideal S1x512x128 .bf16) (t : Vec Ideal S1x128x512 .f32)
    (v : Vec Ideal S1x512x128 .bf16) : Vec Ideal S1x128x128 .bf16 :=
  k0_pay21 (k0_pay12 (k0_pay5 q k t)) v

/-- The tile, entry by entry: the mean of the values with the softmax weights of the scores. -/
theorem tile4_at (q : Vec Ideal S1x128x128 .bf16) (k v : Vec Ideal S1x512x128 .bf16) (t : Vec Ideal S1x128x512 .f32)
    (a d : Fin 128) :
    tile4 q k t v (ix3 0 a d) = mean (fun s : Fin 512 => (∑ e : Fin 128, q (ix3 0 a e) * k (ix3 0 s e)) + t (ix3 0 a s))
      (fun s => v (ix3 0 s d)) := by
  pointwise [tile4, k0_pay21, k0_pay12, k0_pay5]
  rw [neg_inf]
  rfl

/-- The tile of the rows of a later block, with the keys of five blocks. -/
def tile5 (q : Vec Ideal S1x128x128 .bf16) (k : Vec Ideal S1x640x128 .bf16) (t : Vec Ideal S1x128x640 .f32)
    (v : Vec Ideal S1x640x128 .bf16) : Vec Ideal S1x128x128 .bf16 :=
  k0_pay28 (k0_pay17 (k0_pay8 q k t)) v

/-- The tile, entry by entry: the mean of the values with the softmax weights of the scores. -/
theorem tile5_at (q : Vec Ideal S1x128x128 .bf16) (k v : Vec Ideal S1x640x128 .bf16) (t : Vec Ideal S1x128x640 .f32)
    (a d : Fin 128) :
    tile5 q k t v (ix3 0 a d) = mean (fun s : Fin 640 => (∑ e : Fin 128, q (ix3 0 a e) * k (ix3 0 s e)) + t (ix3 0 a s))
      (fun s => v (ix3 0 s d)) := by
  pointwise [tile5, k0_pay28, k0_pay17, k0_pay8]
  rw [neg_inf]
  rfl

end Cert.CaIdeal.Tile

end
-- ==== Proof.CaCell.lean ====
/-
  One grid point of the chunked attention's kernel, over the real numbers: the block it writes, entry by entry, as one mean over
  all the keys, the scores outside the band of blocks being −∞.
-/
module

public import proofs.«01_k».proof.Proof.Gen.CaIdeal.Frame
public import proofs.«01_k».proof.Proof.CaTile
public import proofs.«01_k».proof.Proof.Soft
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CaIdeal.Tile

open Cert.CaIdeal Cert.CaIdeal.Gen Cert.Soft

variable (x0 x1 x2 : Vec Ideal S1x2048x512 .bf16) (x3 : Vec Ideal S4x128x640 .f32)

/-- The score of a key for a query row, in the head of a column: the inner product and the table's entry where the key lies in
    the row's block of 128 or in one of the four before it, −∞ elsewhere. -/
def score (r : Fin 2048) (c : Fin 512) (s : Fin 2048) : EReal :=
  if hs : r.val / 128 * 128 ≤ s.val + 512 ∧ s.val < r.val / 128 * 128 + 128 then
    (∑ e : Fin 128, x0 (ix3 0 r ⟨c.val / 128 * 128 + e.val, by omega⟩) * x1 (ix3 0 s ⟨c.val / 128 * 128 + e.val, by omega⟩))
      + x3 (ix3 ⟨c.val / 128, by omega⟩ ⟨r.val % 128, by omega⟩ ⟨s.val + 512 - r.val / 128 * 128, by omega⟩)
  else ⊥

/-- An entry of the block: the mean of the values with the softmax weights of the scores. -/
def cell (r : Fin 2048) (c : Fin 512) : EReal := mean (score x0 x1 x3 r c) (fun s => x2 (ix3 0 s c))

/-- The entry as a mean over the keys that its tile reads. -/
theorem cell_eq (n lo i h : ℕ) (hlo : lo + n = 128 * (i + 1)) (hc : lo = 0 ∨ n = 640) (hn : n ≤ 640) (hi : i < 16) (hh : h < 4)
    (a d : Fin 128) :
    mean (fun s : Fin n => (∑ e : Fin 128, x0 (ix3 0 ⟨128 * i + a.val, by omega⟩ ⟨128 * h + e.val, by omega⟩)
        * x1 (ix3 0 ⟨lo + s.val, by omega⟩ ⟨128 * h + e.val, by omega⟩))
        + x3 (ix3 ⟨h, hh⟩ a ⟨640 - n + s.val, by omega⟩))
      (fun s => x2 (ix3 0 ⟨lo + s.val, by omega⟩ ⟨128 * h + d.val, by omega⟩))
    = cell x0 x1 x2 x3 ⟨128 * i + a.val, by omega⟩ ⟨128 * h + d.val, by omega⟩ := by
  unfold cell
  rw [← mean_band (fun s : Fin n => (⟨lo + s.val, by omega⟩ : Fin 2048)) (fun s s' e => by
    have := congrArg Fin.val e; exact Fin.ext (by simpa using this))]
  · congr 1
    funext s
    have hs := s.isLt
    unfold score
    rw [dif_pos (by constructor <;> simp only <;> omega)]
    have e1 : ∀ e : Fin 128, (⟨128 * h + e.val, by omega⟩ : Fin 512)
        = ⟨(128 * h + d.val) / 128 * 128 + e.val, by omega⟩ := fun e => Fin.ext (by simp only; omega)
    congr 1
    · exact Finset.sum_congr rfl fun e _ => by rw [e1 e]
    · congr 1
      congr 1 <;> exact Fin.ext (by simp only; omega)
  · intro s hs
    unfold score
    rw [dif_neg]
    rintro ⟨h1, h2⟩
    simp only at h1 h2
    exact hs ⟨⟨s.val - lo, by omega⟩, Fin.ext (by simp only; omega)⟩

/-- The tile's entries in the block. -/
theorem piece1 (h : ℕ) (hh : h < 4)
    (bq : ∀ a, (![0, 128 * 0, 128 * h] : Fin 3 → ℕ) a + S1x128x128.size a ≤ S1x2048x512.size a)
    (bk : ∀ a, (![0, 0, 128 * h] : Fin 3 → ℕ) a + S1x128x128.size a ≤ S1x2048x512.size a)
    (bt : ∀ a, (![h, 0, 512] : Fin 3 → ℕ) a + S1x128x128.size a ≤ S4x128x640.size a)
    (x : S1x128x128.Idx) (r : Fin 2048) (c : Fin 512) (hr : r.val = 128 * 0 + (x 1).val) (hc : c.val = 128 * h + (x 2).val) :
    tile1 (View.ld x0 (Rect.unit (s := S1x2048x512) ![0, 128 * 0, 128 * h] S1x128x128.size bq))
      (View.ld x1 (Rect.unit (s := S1x2048x512) ![0, 0, 128 * h] S1x128x128.size bk))
      (View.ld x3 (Rect.unit (s := S4x128x640) ![h, 0, 512] S1x128x128.size bt))
      (View.ld x2 (Rect.unit (s := S1x2048x512) ![0, 0, 128 * h] S1x128x128.size bk)) x = cell x0 x1 x2 x3 r c := by
  obtain ⟨z, a, d, rfl⟩ : ∃ z a d, x = ix3 z a d := ⟨x 0, x 1, x 2, by blk_ext⟩
  obtain rfl : z = 0 := Subsingleton.elim _ _
  have er : r = ⟨128 * 0 + a.val, by omega⟩ := Fin.ext hr
  have ec : c = ⟨128 * h + d.val, by omega⟩ := Fin.ext hc
  rw [tile1_at, er, ec, ← cell_eq x0 x1 x2 x3 128 (0) 0 h (by omega) (by omega) (by omega) (by omega) hh a d]
  congr 1
  · funext s
    congr 1
    · refine Finset.sum_congr rfl fun e _ => ?_
      congr 1
      · exact View.ld_unit_apply_of _ _ _ _ _ _ (fun b => match b with | ⟨0, _⟩ => by simp | ⟨1, _⟩ => by simp | ⟨2, _⟩ => by simp)
      · exact View.ld_unit_apply_of _ _ _ _ _ _ (fun b => match b with | ⟨0, _⟩ => by simp | ⟨1, _⟩ => by simp | ⟨2, _⟩ => by simp)
    · exact View.ld_unit_apply_of _ _ _ _ _ _ (fun b => match b with | ⟨0, _⟩ => by simp | ⟨1, _⟩ => by simp | ⟨2, _⟩ => by simp)
  · funext s
    exact View.ld_unit_apply_of _ _ _ _ _ _ (fun b => match b with | ⟨0, _⟩ => by simp | ⟨1, _⟩ => by simp | ⟨2, _⟩ => by simp)

/-- The tile's entries in the block. -/
theorem piece2 (h : ℕ) (hh : h < 4)
    (bq : ∀ a, (![0, 128 * 1, 128 * h] : Fin 3 → ℕ) a + S1x128x128.size a ≤ S1x2048x512.size a)
    (bk : ∀ a, (![0, 0, 128 * h] : Fin 3 → ℕ) a + S1x256x128.size a ≤ S1x2048x512.size a)
    (bt : ∀ a, (![h, 0, 384] : Fin 3 → ℕ) a + S1x128x256.size a ≤ S4x128x640.size a)
    (x : S1x128x128.Idx) (r : Fin 2048) (c : Fin 512) (hr : r.val = 128 * 1 + (x 1).val) (hc : c.val = 128 * h + (x 2).val) :
    tile2 (View.ld x0 (Rect.unit (s := S1x2048x512) ![0, 128 * 1, 128 * h] S1x128x128.size bq))
      (View.ld x1 (Rect.unit (s := S1x2048x512) ![0, 0, 128 * h] S1x256x128.size bk))
      (View.ld x3 (Rect.unit (s := S4x128x640) ![h, 0, 384] S1x128x256.size bt))
      (View.ld x2 (Rect.unit (s := S1x2048x512) ![0, 0, 128 * h] S1x256x128.size bk)) x = cell x0 x1 x2 x3 r c := by
  obtain ⟨z, a, d, rfl⟩ : ∃ z a d, x = ix3 z a d := ⟨x 0, x 1, x 2, by blk_ext⟩
  obtain rfl : z = 0 := Subsingleton.elim _ _
  have er : r = ⟨128 * 1 + a.val, by omega⟩ := Fin.ext hr
  have ec : c = ⟨128 * h + d.val, by omega⟩ := Fin.ext hc
  rw [tile2_at, er, ec, ← cell_eq x0 x1 x2 x3 256 (0) 1 h (by omega) (by omega) (by omega) (by omega) hh a d]
  congr 1
  · funext s
    congr 1
    · refine Finset.sum_congr rfl fun e _ => ?_
      congr 1
      · exact View.ld_unit_apply_of _ _ _ _ _ _ (fun b => match b with | ⟨0, _⟩ => by simp | ⟨1, _⟩ => by simp | ⟨2, _⟩ => by simp)
      · exact View.ld_unit_apply_of _ _ _ _ _ _ (fun b => match b with | ⟨0, _⟩ => by simp | ⟨1, _⟩ => by simp | ⟨2, _⟩ => by simp)
    · exact View.ld_unit_apply_of _ _ _ _ _ _ (fun b => match b with | ⟨0, _⟩ => by simp | ⟨1, _⟩ => by simp | ⟨2, _⟩ => by simp)
  · funext s
    exact View.ld_unit_apply_of _ _ _ _ _ _ (fun b => match b with | ⟨0, _⟩ => by simp | ⟨1, _⟩ => by simp | ⟨2, _⟩ => by simp)

/-- The tile's entries in the block. -/
theorem piece3 (h : ℕ) (hh : h < 4)
    (bq : ∀ a, (![0, 128 * 2, 128 * h] : Fin 3 → ℕ) a + S1x128x128.size a ≤ S1x2048x512.size a)
    (bk : ∀ a, (![0, 0, 128 * h] : Fin 3 → ℕ) a + S1x384x128.size a ≤ S1x2048x512.size a)
    (bt : ∀ a, (![h, 0, 256] : Fin 3 → ℕ) a + S1x128x384.size a ≤ S4x128x640.size a)
    (x : S1x128x128.Idx) (r : Fin 2048) (c : Fin 512) (hr : r.val = 128 * 2 + (x 1).val) (hc : c.val = 128 * h + (x 2).val) :
    tile3 (View.ld x0 (Rect.unit (s := S1x2048x512) ![0, 128 * 2, 128 * h] S1x128x128.size bq))
      (View.ld x1 (Rect.unit (s := S1x2048x512) ![0, 0, 128 * h] S1x384x128.size bk))
      (View.ld x3 (Rect.unit (s := S4x128x640) ![h, 0, 256] S1x128x384.size bt))
      (View.ld x2 (Rect.unit (s := S1x2048x512) ![0, 0, 128 * h] S1x384x128.size bk)) x = cell x0 x1 x2 x3 r c := by
  obtain ⟨z, a, d, rfl⟩ : ∃ z a d, x = ix3 z a d := ⟨x 0, x 1, x 2, by blk_ext⟩
  obtain rfl : z = 0 := Subsingleton.elim _ _
  have er : r = ⟨128 * 2 + a.val, by omega⟩ := Fin.ext hr
  have ec : c = ⟨128 * h + d.val, by omega⟩ := Fin.ext hc
  rw [tile3_at, er, ec, ← cell_eq x0 x1 x2 x3 384 (0) 2 h (by omega) (by omega) (by omega) (by omega) hh a d]
  congr 1
  · funext s
    congr 1
    · refine Finset.sum_congr rfl fun e _ => ?_
      congr 1
      · exact View.ld_unit_apply_of _ _ _ _ _ _ (fun b => match b with | ⟨0, _⟩ => by simp | ⟨1, _⟩ => by simp | ⟨2, _⟩ => by simp)
      · exact View.ld_unit_apply_of _ _ _ _ _ _ (fun b => match b with | ⟨0, _⟩ => by simp | ⟨1, _⟩ => by simp | ⟨2, _⟩ => by simp)
    · exact View.ld_unit_apply_of _ _ _ _ _ _ (fun b => match b with | ⟨0, _⟩ => by simp | ⟨1, _⟩ => by simp | ⟨2, _⟩ => by simp)
  · funext s
    exact View.ld_unit_apply_of _ _ _ _ _ _ (fun b => match b with | ⟨0, _⟩ => by simp | ⟨1, _⟩ => by simp | ⟨2, _⟩ => by simp)

/-- The tile's entries in the block. -/
theorem piece4 (h : ℕ) (hh : h < 4)
    (bq : ∀ a, (![0, 128 * 3, 128 * h] : Fin 3 → ℕ) a + S1x128x128.size a ≤ S1x2048x512.size a)
    (bk : ∀ a, (![0, 0, 128 * h] : Fin 3 → ℕ) a + S1x512x128.size a ≤ S1x2048x512.size a)
    (bt : ∀ a, (![h, 0, 128] : Fin 3 → ℕ) a + S1x128x512.size a ≤ S4x128x640.size a)
    (x : S1x128x128.Idx) (r : Fin 2048) (c : Fin 512) (hr : r.val = 128 * 3 + (x 1).val) (hc : c.val = 128 * h + (x 2).val) :
    tile4 (View.ld x0 (Rect.unit (s := S1x2048x512) ![0, 128 * 3, 128 * h] S1x128x128.size bq))
      (View.ld x1 (Rect.unit (s := S1x2048x512) ![0, 0, 128 * h] S1x512x128.size bk))
      (View.ld x3 (Rect.unit (s := S4x128x640) ![h, 0, 128] S1x128x512.size bt))
      (View.ld x2 (Rect.unit (s := S1x2048x512) ![0, 0, 128 * h] S1x512x128.size bk)) x = cell x0 x1 x2 x3 r c := by
  obtain ⟨z, a, d, rfl⟩ : ∃ z a d, x = ix3 z a d := ⟨x 0, x 1, x 2, by blk_ext⟩
  obtain rfl : z = 0 := Subsingleton.elim _ _
  have er : r = ⟨128 * 3 + a.val, by omega⟩ := Fin.ext hr
  have ec : c = ⟨128 * h + d.val, by omega⟩ := Fin.ext hc
  rw [tile4_at, er, ec, ← cell_eq x0 x1 x2 x3 512 (0) 3 h (by omega) (by omega) (by omega) (by omega) hh a d]
  congr 1
  · funext s
    congr 1
    · refine Finset.sum_congr rfl fun e _ => ?_
      congr 1
      · exact View.ld_unit_apply_of _ _ _ _ _ _ (fun b => match b with | ⟨0, _⟩ => by simp | ⟨1, _⟩ => by simp | ⟨2, _⟩ => by simp)
      · exact View.ld_unit_apply_of _ _ _ _ _ _ (fun b => match b with | ⟨0, _⟩ => by simp | ⟨1, _⟩ => by simp | ⟨2, _⟩ => by simp)
    · exact View.ld_unit_apply_of _ _ _ _ _ _ (fun b => match b with | ⟨0, _⟩ => by simp | ⟨1, _⟩ => by simp | ⟨2, _⟩ => by simp)
  · funext s
    exact View.ld_unit_apply_of _ _ _ _ _ _ (fun b => match b with | ⟨0, _⟩ => by simp | ⟨1, _⟩ => by simp | ⟨2, _⟩ => by simp)

/-- The tile's entries in the block (the fifth block and the later ones). -/
theorem piece5 (j : ℕ) (hj : j < 12) (h : ℕ) (hh : h < 4)
    (bq : ∀ a, (![0, 128 * (j + 4), 128 * h] : Fin 3 → ℕ) a + S1x128x128.size a ≤ S1x2048x512.size a)
    (bk : ∀ a, (![0, 128 * j, 128 * h] : Fin 3 → ℕ) a + S1x640x128.size a ≤ S1x2048x512.size a)
    (bt : ∀ a, (![h, 0, 0] : Fin 3 → ℕ) a + S1x128x640.size a ≤ S4x128x640.size a)
    (x : S1x128x128.Idx) (r : Fin 2048) (c : Fin 512) (hr : r.val = 128 * (j + 4) + (x 1).val) (hc : c.val = 128 * h + (x 2).val) :
    tile5 (View.ld x0 (Rect.unit (s := S1x2048x512) ![0, 128 * (j + 4), 128 * h] S1x128x128.size bq))
      (View.ld x1 (Rect.unit (s := S1x2048x512) ![0, 128 * j, 128 * h] S1x640x128.size bk))
      (View.ld x3 (Rect.unit (s := S4x128x640) ![h, 0, 0] S1x128x640.size bt))
      (View.ld x2 (Rect.unit (s := S1x2048x512) ![0, 128 * j, 128 * h] S1x640x128.size bk)) x = cell x0 x1 x2 x3 r c := by
  obtain ⟨z, a, d, rfl⟩ : ∃ z a d, x = ix3 z a d := ⟨x 0, x 1, x 2, by blk_ext⟩
  obtain rfl : z = 0 := Subsingleton.elim _ _
  have er : r = ⟨128 * (j + 4) + a.val, by omega⟩ := Fin.ext hr
  have ec : c = ⟨128 * h + d.val, by omega⟩ := Fin.ext hc
  rw [tile5_at, er, ec, ← cell_eq x0 x1 x2 x3 640 (128 * j) (j + 4) h (by omega) (by omega) (by omega) (by omega) hh a d]
  congr 1
  · funext s
    congr 1
    · refine Finset.sum_congr rfl fun e _ => ?_
      congr 1
      · exact View.ld_unit_apply_of _ _ _ _ _ _ (fun b => match b with | ⟨0, _⟩ => by simp | ⟨1, _⟩ => by simp | ⟨2, _⟩ => by simp)
      · exact View.ld_unit_apply_of _ _ _ _ _ _ (fun b => match b with | ⟨0, _⟩ => by simp | ⟨1, _⟩ => by simp | ⟨2, _⟩ => by simp)
    · exact View.ld_unit_apply_of _ _ _ _ _ _ (fun b => match b with | ⟨0, _⟩ => by simp | ⟨1, _⟩ => by simp | ⟨2, _⟩ => by simp)
  · funext s
    exact View.ld_unit_apply_of _ _ _ _ _ _ (fun b => match b with | ⟨0, _⟩ => by simp | ⟨1, _⟩ => by simp | ⟨2, _⟩ => by simp)

end Cert.CaIdeal.Tile

end
-- ==== Proof.CaBlock.lean ====
/-
  The block that one grid point of the chunked attention's kernel writes: each of its 64 stores is one of the five tiles.
-/
module

public import proofs.«01_k».proof.Proof.Gen.CaIdeal.Frame
public import proofs.«01_k».proof.Proof.CaCell
public import proofs.«01_k».proof.Proof.Soft
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CaIdeal.Tile

open Cert.CaIdeal Cert.CaIdeal.Gen Cert.Soft

theorem store0 (q : Vec Ideal S1x128x128 .bf16) (k v : Vec Ideal S1x640x128 .bf16) (t : Vec Ideal S1x128x640 .f32) :
    k0_pay1 (k0_pay232 (k0_pay227 (k0_pay220 q k t)) v) = tile5 q k t v := rfl

theorem store1 (q : Vec Ideal S1x128x128 .bf16) (k v : Vec Ideal S1x640x128 .bf16) (t : Vec Ideal S1x128x640 .f32) :
    k0_pay231 (k0_pay226 (k0_pay219 q k t)) v = tile5 q k t v := rfl

theorem store2 (q : Vec Ideal S1x128x128 .bf16) (k v : Vec Ideal S1x640x128 .bf16) (t : Vec Ideal S1x128x640 .f32) :
    k0_pay230 (k0_pay222 (k0_pay214 q k t)) v = tile5 q k t v := rfl

theorem store3 (q : Vec Ideal S1x128x128 .bf16) (k v : Vec Ideal S1x640x128 .bf16) (t : Vec Ideal S1x128x640 .f32) :
    k0_pay229 (k0_pay228 (k0_pay221 (k0_pay213 q k t)) v) = tile5 q k t v := rfl

theorem store4 (q : Vec Ideal S1x128x128 .bf16) (k v : Vec Ideal S1x640x128 .bf16) (t : Vec Ideal S1x128x640 .f32) :
    k0_pay225 (k0_pay216 (k0_pay207 q k t)) v = tile5 q k t v := rfl

theorem store5 (q : Vec Ideal S1x128x128 .bf16) (k v : Vec Ideal S1x640x128 .bf16) (t : Vec Ideal S1x128x640 .f32) :
    k0_pay224 (k0_pay223 (k0_pay215 (k0_pay206 (k0_pay205 q) k t)) v) = tile5 q k t v := rfl

theorem store6 (q : Vec Ideal S1x128x128 .bf16) (k v : Vec Ideal S1x640x128 .bf16) (t : Vec Ideal S1x128x640 .f32) :
    k0_pay218 (k0_pay209 (k0_pay199 q k t)) v = tile5 q k t v := rfl

theorem store7 (q : Vec Ideal S1x128x128 .bf16) (k v : Vec Ideal S1x640x128 .bf16) (t : Vec Ideal S1x128x640 .f32) :
    k0_pay217 (k0_pay208 (k0_pay198 q k t)) v = tile5 q k t v := rfl

theorem store8 (q : Vec Ideal S1x128x128 .bf16) (k v : Vec Ideal S1x640x128 .bf16) (t : Vec Ideal S1x128x640 .f32) :
    k0_pay212 (k0_pay202 (k0_pay193 q k t)) v = tile5 q k t v := rfl

theorem store9 (q : Vec Ideal S1x128x128 .bf16) (k v : Vec Ideal S1x640x128 .bf16) (t : Vec Ideal S1x128x640 .f32) :
    k0_pay211 (k0_pay210 (k0_pay201 (k0_pay192 (k0_pay191 q k) t) (k0_pay200 (k0_pay192 (k0_pay191 q k) t))) v) = tile5 q k t v := rfl

theorem store10 (q : Vec Ideal S1x128x128 .bf16) (k v : Vec Ideal S1x640x128 .bf16) (t : Vec Ideal S1x128x640 .f32) :
    k0_pay204 (k0_pay195 (k0_pay184 q k t)) v = tile5 q k t v := rfl

theorem store11 (q : Vec Ideal S1x128x128 .bf16) (k v : Vec Ideal S1x640x128 .bf16) (t : Vec Ideal S1x128x640 .f32) :
    k0_pay203 (k0_pay194 (k0_pay183 q k t)) v = tile5 q k t v := rfl

theorem store12 (q : Vec Ideal S1x128x128 .bf16) (k v : Vec Ideal S1x512x128 .bf16) (t : Vec Ideal S1x128x512 .f32) :
    k0_pay197 (k0_pay188 (k0_pay177 q k t) (k0_pay185 (k0_pay177 q k t))) v = tile4 q k t v := rfl

theorem store13 (q : Vec Ideal S1x128x128 .bf16) (k v : Vec Ideal S1x384x128 .bf16) (t : Vec Ideal S1x128x384 .f32) :
    k0_pay196 (k0_pay187 (k0_pay186 (k0_pay176 (k0_pay175 q k) t))) v = tile3 q k t v := rfl

theorem store14 (q : Vec Ideal S1x128x128 .bf16) (k v : Vec Ideal S1x256x128 .bf16) (t : Vec Ideal S1x128x256 .f32) :
    k0_pay190 (k0_pay179 (k0_pay169 q k t)) v = tile2 q k t v := rfl

theorem store15 (q : Vec Ideal S1x128x128 .bf16) (k v : Vec Ideal S1x128x128 .bf16) (t : Vec Ideal S1x128x128 .f32) :
    k0_pay189 (k0_pay178 (k0_pay168 q k t)) v = tile1 q k t v := rfl

theorem store16 (q : Vec Ideal S1x128x128 .bf16) (k v : Vec Ideal S1x640x128 .bf16) (t : Vec Ideal S1x128x640 .f32) :
    k0_pay182 (k0_pay172 (k0_pay171 (k0_pay162 q k t))) (k0_pay181 v) = tile5 q k t v := rfl

theorem store17 (q : Vec Ideal S1x128x128 .bf16) (k v : Vec Ideal S1x640x128 .bf16) (t : Vec Ideal S1x128x640 .f32) :
    k0_pay180 (k0_pay170 (k0_pay161 q k t)) v = tile5 q k t v := rfl

theorem store18 (q : Vec Ideal S1x128x128 .bf16) (k v : Vec Ideal S1x640x128 .bf16) (t : Vec Ideal S1x128x640 .f32) :
    k0_pay174 (k0_pay164 (k0_pay156 q k t)) v = tile5 q k t v := rfl

theorem store19 (q : Vec Ideal S1x128x128 .bf16) (k v : Vec Ideal S1x640x128 .bf16) (t : Vec Ideal S1x128x640 .f32) :
    k0_pay173 (k0_pay163 (k0_pay155 q k t)) v = tile5 q k t v := rfl

theorem store20 (q : Vec Ideal S1x128x128 .bf16) (k v : Vec Ideal S1x640x128 .bf16) (t : Vec Ideal S1x128x640 .f32) :
    k0_pay167 (k0_pay158 (k0_pay149 (k0_pay148 q) k t)) (k0_pay166 v) (constant S128x256 .f32 0x00000000#32) = tile5 q k t v := rfl

theorem store21 (q : Vec Ideal S1x128x128 .bf16) (k v : Vec Ideal S1x640x128 .bf16) (t : Vec Ideal S1x128x640 .f32) :
    k0_pay165 (k0_pay157 (k0_pay147 q k t)) v = tile5 q k t v := rfl

theorem store22 (q : Vec Ideal S1x128x128 .bf16) (k v : Vec Ideal S1x640x128 .bf16) (t : Vec Ideal S1x128x640 .f32) :
    k0_pay160 (k0_pay151 (k0_pay141 q k t)) v = tile5 q k t v := rfl

theorem store23 (q : Vec Ideal S1x128x128 .bf16) (k v : Vec Ideal S1x640x128 .bf16) (t : Vec Ideal S1x128x640 .f32) :
    k0_pay159 (k0_pay150 (k0_pay140 q k t)) v = tile5 q k t v := rfl

theorem store24 (q : Vec Ideal S1x128x128 .bf16) (k v : Vec Ideal S1x640x128 .bf16) (t : Vec Ideal S1x128x640 .f32) :
    k0_pay154 (k0_pay153 (k0_pay143 (k0_pay134 (k0_pay132 q) (k0_pay133 k) t)) v) = tile5 q k t v := rfl

theorem store25 (q : Vec Ideal S1x128x128 .bf16) (k v : Vec Ideal S1x640x128 .bf16) (t : Vec Ideal S1x128x640 .f32) :
    k0_pay152 (k0_pay142 (k0_pay131 q k t)) v = tile5 q k t v := rfl

theorem store26 (q : Vec Ideal S1x128x128 .bf16) (k v : Vec Ideal S1x640x128 .bf16) (t : Vec Ideal S1x128x640 .f32) :
    k0_pay146 (k0_pay136 (k0_pay125 q k t)) v = tile5 q k t v := rfl

theorem store27 (q : Vec Ideal S1x128x128 .bf16) (k v : Vec Ideal S1x640x128 .bf16) (t : Vec Ideal S1x128x640 .f32) :
    k0_pay145 (k0_pay135 (k0_pay124 q k t)) (k0_pay144 v) (Scalar.ofBits .bf16 0x3F80#16) = tile5 q k t v := rfl

theorem store28 (q : Vec Ideal S1x128x128 .bf16) (k v : Vec Ideal S1x512x128 .bf16) (t : Vec Ideal S1x128x512 .f32) :
    k0_pay139 (k0_pay138 (k0_pay127 (k0_pay119 (k0_pay118 q k) t)) v) = tile4 q k t v := rfl

theorem store29 (q : Vec Ideal S1x128x128 .bf16) (k v : Vec Ideal S1x384x128 .bf16) (t : Vec Ideal S1x128x384 .f32) :
    k0_pay137 (k0_pay126 (k0_pay117 q k t)) v = tile3 q k t v := rfl

theorem store30 (q : Vec Ideal S1x128x128 .bf16) (k v : Vec Ideal S1x256x128 .bf16) (t : Vec Ideal S1x128x256 .f32) :
    k0_pay130 (k0_pay121 (k0_pay111 q k t)) v = tile2 q k t v := rfl

theorem store31 (q : Vec Ideal S1x128x128 .bf16) (k v : Vec Ideal S1x128x128 .bf16) (t : Vec Ideal S1x128x128 .f32) :
    k0_pay129 (k0_pay128 (k0_pay120 (k0_pay110 q k t)) v) = tile1 q k t v := rfl

theorem store32 (q : Vec Ideal S1x128x128 .bf16) (k v : Vec Ideal S1x640x128 .bf16) (t : Vec Ideal S1x128x640 .f32) :
    k0_pay123 (k0_pay113 (k0_pay105 q k t)) v = tile5 q k t v := rfl

theorem store33 (q : Vec Ideal S1x128x128 .bf16) (k v : Vec Ideal S1x640x128 .bf16) (t : Vec Ideal S1x128x640 .f32) :
    k0_pay122 (k0_pay112 (k0_pay104 q k t)) v = tile5 q k t v := rfl

theorem store34 (q : Vec Ideal S1x128x128 .bf16) (k v : Vec Ideal S1x640x128 .bf16) (t : Vec Ideal S1x128x640 .f32) :
    k0_pay116 (k0_pay107 (k0_pay98 q k t)) v = tile5 q k t v := rfl

theorem store35 (q : Vec Ideal S1x128x128 .bf16) (k v : Vec Ideal S1x640x128 .bf16) (t : Vec Ideal S1x128x640 .f32) :
    k0_pay115 (k0_pay114 (k0_pay106 (k0_pay97 (k0_pay96 q) k t)) v) = tile5 q k t v := rfl

theorem store36 (q : Vec Ideal S1x128x128 .bf16) (k v : Vec Ideal S1x640x128 .bf16) (t : Vec Ideal S1x128x640 .f32) :
    k0_pay109 (k0_pay100 (k0_pay90 q k t)) v = tile5 q k t v := rfl

theorem store37 (q : Vec Ideal S1x128x128 .bf16) (k v : Vec Ideal S1x640x128 .bf16) (t : Vec Ideal S1x128x640 .f32) :
    k0_pay108 (k0_pay99 (k0_pay89 q k t)) v = tile5 q k t v := rfl

theorem store38 (q : Vec Ideal S1x128x128 .bf16) (k v : Vec Ideal S1x640x128 .bf16) (t : Vec Ideal S1x128x640 .f32) :
    k0_pay103 (k0_pay93 (k0_pay84 q k t)) v = tile5 q k t v := rfl

theorem store39 (q : Vec Ideal S1x128x128 .bf16) (k v : Vec Ideal S1x640x128 .bf16) (t : Vec Ideal S1x128x640 .f32) :
    k0_pay102 (k0_pay101 (k0_pay92 (k0_pay83 (k0_pay82 q k) t) (k0_pay91 (k0_pay83 (k0_pay82 q k) t))) v) = tile5 q k t v := rfl

theorem store40 (q : Vec Ideal S1x128x128 .bf16) (k v : Vec Ideal S1x640x128 .bf16) (t : Vec Ideal S1x128x640 .f32) :
    k0_pay95 (k0_pay86 (k0_pay75 q k t)) v = tile5 q k t v := rfl

theorem store41 (q : Vec Ideal S1x128x128 .bf16) (k v : Vec Ideal S1x640x128 .bf16) (t : Vec Ideal S1x128x640 .f32) :
    k0_pay94 (k0_pay85 (k0_pay74 q k t)) v = tile5 q k t v := rfl

theorem store42 (q : Vec Ideal S1x128x128 .bf16) (k v : Vec Ideal S1x640x128 .bf16) (t : Vec Ideal S1x128x640 .f32) :
    k0_pay88 (k0_pay79 (k0_pay68 q k t) (k0_pay76 (k0_pay68 q k t))) v = tile5 q k t v := rfl

theorem store43 (q : Vec Ideal S1x128x128 .bf16) (k v : Vec Ideal S1x640x128 .bf16) (t : Vec Ideal S1x128x640 .f32) :
    k0_pay87 (k0_pay78 (k0_pay77 (k0_pay67 (k0_pay66 q k) t))) v = tile5 q k t v := rfl

theorem store44 (q : Vec Ideal S1x128x128 .bf16) (k v : Vec Ideal S1x512x128 .bf16) (t : Vec Ideal S1x128x512 .f32) :
    k0_pay81 (k0_pay70 (k0_pay60 q k t)) v = tile4 q k t v := rfl

theorem store45 (q : Vec Ideal S1x128x128 .bf16) (k v : Vec Ideal S1x384x128 .bf16) (t : Vec Ideal S1x128x384 .f32) :
    k0_pay80 (k0_pay69 (k0_pay59 q k t)) v = tile3 q k t v := rfl

theorem store46 (q : Vec Ideal S1x128x128 .bf16) (k v : Vec Ideal S1x256x128 .bf16) (t : Vec Ideal S1x128x256 .f32) :
    k0_pay73 (k0_pay63 (k0_pay62 (k0_pay53 q k t))) (k0_pay72 v) = tile2 q k t v := rfl

theorem store47 (q : Vec Ideal S1x128x128 .bf16) (k v : Vec Ideal S1x128x128 .bf16) (t : Vec Ideal S1x128x128 .f32) :
    k0_pay71 (k0_pay61 (k0_pay52 q k t)) v = tile1 q k t v := rfl

theorem store48 (q : Vec Ideal S1x128x128 .bf16) (k v : Vec Ideal S1x640x128 .bf16) (t : Vec Ideal S1x128x640 .f32) :
    k0_pay65 (k0_pay55 (k0_pay47 q k t)) v = tile5 q k t v := rfl

theorem store49 (q : Vec Ideal S1x128x128 .bf16) (k v : Vec Ideal S1x640x128 .bf16) (t : Vec Ideal S1x128x640 .f32) :
    k0_pay64 (k0_pay54 (k0_pay46 q k t)) v = tile5 q k t v := rfl

theorem store50 (q : Vec Ideal S1x128x128 .bf16) (k v : Vec Ideal S1x640x128 .bf16) (t : Vec Ideal S1x128x640 .f32) :
    k0_pay58 (k0_pay49 (k0_pay40 (k0_pay39 q) k t)) (k0_pay57 v) (constant S128x256 .f32 0x00000000#32) = tile5 q k t v := rfl

theorem store51 (q : Vec Ideal S1x128x128 .bf16) (k v : Vec Ideal S1x640x128 .bf16) (t : Vec Ideal S1x128x640 .f32) :
    k0_pay56 (k0_pay48 (k0_pay38 q k t)) v = tile5 q k t v := rfl

theorem store52 (q : Vec Ideal S1x128x128 .bf16) (k v : Vec Ideal S1x640x128 .bf16) (t : Vec Ideal S1x128x640 .f32) :
    k0_pay51 (k0_pay42 (k0_pay32 q k t)) v = tile5 q k t v := rfl

theorem store53 (q : Vec Ideal S1x128x128 .bf16) (k v : Vec Ideal S1x640x128 .bf16) (t : Vec Ideal S1x128x640 .f32) :
    k0_pay50 (k0_pay41 (k0_pay31 q k t)) v = tile5 q k t v := rfl

theorem store54 (q : Vec Ideal S1x128x128 .bf16) (k v : Vec Ideal S1x640x128 .bf16) (t : Vec Ideal S1x128x640 .f32) :
    k0_pay45 (k0_pay44 (k0_pay34 (k0_pay25 (k0_pay23 q) (k0_pay24 k) t)) v) = tile5 q k t v := rfl

theorem store55 (q : Vec Ideal S1x128x128 .bf16) (k v : Vec Ideal S1x640x128 .bf16) (t : Vec Ideal S1x128x640 .f32) :
    k0_pay43 (k0_pay33 (k0_pay22 q k t)) v = tile5 q k t v := rfl

theorem store56 (q : Vec Ideal S1x128x128 .bf16) (k v : Vec Ideal S1x640x128 .bf16) (t : Vec Ideal S1x128x640 .f32) :
    k0_pay37 (k0_pay27 (k0_pay16 q k t)) v = tile5 q k t v := rfl

theorem store57 (q : Vec Ideal S1x128x128 .bf16) (k v : Vec Ideal S1x640x128 .bf16) (t : Vec Ideal S1x128x640 .f32) :
    k0_pay36 (k0_pay26 (k0_pay15 q k t)) (k0_pay35 v) (Scalar.ofBits .bf16 0x3F80#16) = tile5 q k t v := rfl

theorem store58 (q : Vec Ideal S1x128x128 .bf16) (k v : Vec Ideal S1x640x128 .bf16) (t : Vec Ideal S1x128x640 .f32) :
    k0_pay30 (k0_pay29 (k0_pay18 (k0_pay10 (k0_pay9 q k) t)) v) = tile5 q k t v := rfl

theorem store59 (q : Vec Ideal S1x128x128 .bf16) (k v : Vec Ideal S1x640x128 .bf16) (t : Vec Ideal S1x128x640 .f32) :
    k0_pay28 (k0_pay17 (k0_pay8 q k t)) v = tile5 q k t v := rfl

theorem store60 (q : Vec Ideal S1x128x128 .bf16) (k v : Vec Ideal S1x512x128 .bf16) (t : Vec Ideal S1x128x512 .f32) :
    k0_pay21 (k0_pay12 (k0_pay5 q k t)) v = tile4 q k t v := rfl

theorem store61 (q : Vec Ideal S1x128x128 .bf16) (k v : Vec Ideal S1x384x128 .bf16) (t : Vec Ideal S1x128x384 .f32) :
    k0_pay20 (k0_pay19 (k0_pay11 (k0_pay4 q k t)) v) = tile3 q k t v := rfl

theorem store62 (q : Vec Ideal S1x128x128 .bf16) (k v : Vec Ideal S1x256x128 .bf16) (t : Vec Ideal S1x128x256 .f32) :
    k0_pay14 (k0_pay7 (k0_pay3 q k t)) v = tile2 q k t v := rfl

theorem store63 (q : Vec Ideal S1x128x128 .bf16) (k v : Vec Ideal S1x128x128 .bf16) (t : Vec Ideal S1x128x128 .f32) :
    k0_pay13 (k0_pay6 (k0_pay2 q k t)) v = tile1 q k t v := rfl

/-- The block, entry by entry. -/
theorem out_at (x0 x1 x2 : Vec Ideal S1x2048x512 .bf16) (x3 : Vec Ideal S4x128x640 .f32) (y : S1x2048x512.Idx) :
    out0_4 x0 x1 x2 x3 y = cell x0 x1 x2 x3 (y 1) (y 2) := by
  unfold_out out0_4
  canon_tiles x g
  case piece0 => exact (congrFun (store0 _ _ _ _) x).trans (piece5 x0 x1 x2 x3 11 (by decide) 3 (by decide) _ _ _ x _ _ (by omega) (by omega))
  case piece1 => exact (congrFun (store1 _ _ _ _) x).trans (piece5 x0 x1 x2 x3 10 (by decide) 3 (by decide) _ _ _ x _ _ (by omega) (by omega))
  case piece2 => exact (congrFun (store2 _ _ _ _) x).trans (piece5 x0 x1 x2 x3 9 (by decide) 3 (by decide) _ _ _ x _ _ (by omega) (by omega))
  case piece3 => exact (congrFun (store3 _ _ _ _) x).trans (piece5 x0 x1 x2 x3 8 (by decide) 3 (by decide) _ _ _ x _ _ (by omega) (by omega))
  case piece4 => exact (congrFun (store4 _ _ _ _) x).trans (piece5 x0 x1 x2 x3 7 (by decide) 3 (by decide) _ _ _ x _ _ (by omega) (by omega))
  case piece5 => exact (congrFun (store5 _ _ _ _) x).trans (piece5 x0 x1 x2 x3 6 (by decide) 3 (by decide) _ _ _ x _ _ (by omega) (by omega))
  case piece6 => exact (congrFun (store6 _ _ _ _) x).trans (piece5 x0 x1 x2 x3 5 (by decide) 3 (by decide) _ _ _ x _ _ (by omega) (by omega))
  case piece7 => exact (congrFun (store7 _ _ _ _) x).trans (piece5 x0 x1 x2 x3 4 (by decide) 3 (by decide) _ _ _ x _ _ (by omega) (by omega))
  case piece8 => exact (congrFun (store8 _ _ _ _) x).trans (piece5 x0 x1 x2 x3 3 (by decide) 3 (by decide) _ _ _ x _ _ (by omega) (by omega))
  case piece9 => exact (congrFun (store9 _ _ _ _) x).trans (piece5 x0 x1 x2 x3 2 (by decide) 3 (by decide) _ _ _ x _ _ (by omega) (by omega))
  case piece10 => exact (congrFun (store10 _ _ _ _) x).trans (piece5 x0 x1 x2 x3 1 (by decide) 3 (by decide) _ _ _ x _ _ (by omega) (by omega))
  case piece11 => exact (congrFun (store11 _ _ _ _) x).trans (piece5 x0 x1 x2 x3 0 (by decide) 3 (by decide) _ _ _ x _ _ (by omega) (by omega))
  case piece12 => exact (congrFun (store12 _ _ _ _) x).trans (piece4 x0 x1 x2 x3 3 (by decide) _ _ _ x _ _ (by omega) (by omega))
  case piece13 => exact (congrFun (store13 _ _ _ _) x).trans (piece3 x0 x1 x2 x3 3 (by decide) _ _ _ x _ _ (by omega) (by omega))
  case piece14 => exact (congrFun (store14 _ _ _ _) x).trans (piece2 x0 x1 x2 x3 3 (by decide) _ _ _ x _ _ (by omega) (by omega))
  case piece15 => exact (congrFun (store15 _ _ _ _) x).trans (piece1 x0 x1 x2 x3 3 (by decide) _ _ _ x _ _ (by omega) (by omega))
  case piece16 => exact (congrFun (store16 _ _ _ _) x).trans (piece5 x0 x1 x2 x3 11 (by decide) 2 (by decide) _ _ _ x _ _ (by omega) (by omega))
  case piece17 => exact (congrFun (store17 _ _ _ _) x).trans (piece5 x0 x1 x2 x3 10 (by decide) 2 (by decide) _ _ _ x _ _ (by omega) (by omega))
  case piece18 => exact (congrFun (store18 _ _ _ _) x).trans (piece5 x0 x1 x2 x3 9 (by decide) 2 (by decide) _ _ _ x _ _ (by omega) (by omega))
  case piece19 => exact (congrFun (store19 _ _ _ _) x).trans (piece5 x0 x1 x2 x3 8 (by decide) 2 (by decide) _ _ _ x _ _ (by omega) (by omega))
  case piece20 => exact (congrFun (store20 _ _ _ _) x).trans (piece5 x0 x1 x2 x3 7 (by decide) 2 (by decide) _ _ _ x _ _ (by omega) (by omega))
  case piece21 => exact (congrFun (store21 _ _ _ _) x).trans (piece5 x0 x1 x2 x3 6 (by decide) 2 (by decide) _ _ _ x _ _ (by omega) (by omega))
  case piece22 => exact (congrFun (store22 _ _ _ _) x).trans (piece5 x0 x1 x2 x3 5 (by decide) 2 (by decide) _ _ _ x _ _ (by omega) (by omega))
  case piece23 => exact (congrFun (store23 _ _ _ _) x).trans (piece5 x0 x1 x2 x3 4 (by decide) 2 (by decide) _ _ _ x _ _ (by omega) (by omega))
  case piece24 => exact (congrFun (store24 _ _ _ _) x).trans (piece5 x0 x1 x2 x3 3 (by decide) 2 (by decide) _ _ _ x _ _ (by omega) (by omega))
  case piece25 => exact (congrFun (store25 _ _ _ _) x).trans (piece5 x0 x1 x2 x3 2 (by decide) 2 (by decide) _ _ _ x _ _ (by omega) (by omega))
  case piece26 => exact (congrFun (store26 _ _ _ _) x).trans (piece5 x0 x1 x2 x3 1 (by decide) 2 (by decide) _ _ _ x _ _ (by omega) (by omega))
  case piece27 => exact (congrFun (store27 _ _ _ _) x).trans (piece5 x0 x1 x2 x3 0 (by decide) 2 (by decide) _ _ _ x _ _ (by omega) (by omega))
  case piece28 => exact (congrFun (store28 _ _ _ _) x).trans (piece4 x0 x1 x2 x3 2 (by decide) _ _ _ x _ _ (by omega) (by omega))
  case piece29 => exact (congrFun (store29 _ _ _ _) x).trans (piece3 x0 x1 x2 x3 2 (by decide) _ _ _ x _ _ (by omega) (by omega))
  case piece30 => exact (congrFun (store30 _ _ _ _) x).trans (piece2 x0 x1 x2 x3 2 (by decide) _ _ _ x _ _ (by omega) (by omega))
  case piece31 => exact (congrFun (store31 _ _ _ _) x).trans (piece1 x0 x1 x2 x3 2 (by decide) _ _ _ x _ _ (by omega) (by omega))
  case piece32 => exact (congrFun (store32 _ _ _ _) x).trans (piece5 x0 x1 x2 x3 11 (by decide) 1 (by decide) _ _ _ x _ _ (by omega) (by omega))
  case piece33 => exact (congrFun (store33 _ _ _ _) x).trans (piece5 x0 x1 x2 x3 10 (by decide) 1 (by decide) _ _ _ x _ _ (by omega) (by omega))
  case piece34 => exact (congrFun (store34 _ _ _ _) x).trans (piece5 x0 x1 x2 x3 9 (by decide) 1 (by decide) _ _ _ x _ _ (by omega) (by omega))
  case piece35 => exact (congrFun (store35 _ _ _ _) x).trans (piece5 x0 x1 x2 x3 8 (by decide) 1 (by decide) _ _ _ x _ _ (by omega) (by omega))
  case piece36 => exact (congrFun (store36 _ _ _ _) x).trans (piece5 x0 x1 x2 x3 7 (by decide) 1 (by decide) _ _ _ x _ _ (by omega) (by omega))
  case piece37 => exact (congrFun (store37 _ _ _ _) x).trans (piece5 x0 x1 x2 x3 6 (by decide) 1 (by decide) _ _ _ x _ _ (by omega) (by omega))
  case piece38 => exact (congrFun (store38 _ _ _ _) x).trans (piece5 x0 x1 x2 x3 5 (by decide) 1 (by decide) _ _ _ x _ _ (by omega) (by omega))
  case piece39 => exact (congrFun (store39 _ _ _ _) x).trans (piece5 x0 x1 x2 x3 4 (by decide) 1 (by decide) _ _ _ x _ _ (by omega) (by omega))
  case piece40 => exact (congrFun (store40 _ _ _ _) x).trans (piece5 x0 x1 x2 x3 3 (by decide) 1 (by decide) _ _ _ x _ _ (by omega) (by omega))
  case piece41 => exact (congrFun (store41 _ _ _ _) x).trans (piece5 x0 x1 x2 x3 2 (by decide) 1 (by decide) _ _ _ x _ _ (by omega) (by omega))
  case piece42 => exact (congrFun (store42 _ _ _ _) x).trans (piece5 x0 x1 x2 x3 1 (by decide) 1 (by decide) _ _ _ x _ _ (by omega) (by omega))
  case piece43 => exact (congrFun (store43 _ _ _ _) x).trans (piece5 x0 x1 x2 x3 0 (by decide) 1 (by decide) _ _ _ x _ _ (by omega) (by omega))
  case piece44 => exact (congrFun (store44 _ _ _ _) x).trans (piece4 x0 x1 x2 x3 1 (by decide) _ _ _ x _ _ (by omega) (by omega))
  case piece45 => exact (congrFun (store45 _ _ _ _) x).trans (piece3 x0 x1 x2 x3 1 (by decide) _ _ _ x _ _ (by omega) (by omega))
  case piece46 => exact (congrFun (store46 _ _ _ _) x).trans (piece2 x0 x1 x2 x3 1 (by decide) _ _ _ x _ _ (by omega) (by omega))
  case piece47 => exact (congrFun (store47 _ _ _ _) x).trans (piece1 x0 x1 x2 x3 1 (by decide) _ _ _ x _ _ (by omega) (by omega))
  case piece48 => exact (congrFun (store48 _ _ _ _) x).trans (piece5 x0 x1 x2 x3 11 (by decide) 0 (by decide) _ _ _ x _ _ (by omega) (by omega))
  case piece49 => exact (congrFun (store49 _ _ _ _) x).trans (piece5 x0 x1 x2 x3 10 (by decide) 0 (by decide) _ _ _ x _ _ (by omega) (by omega))
  case piece50 => exact (congrFun (store50 _ _ _ _) x).trans (piece5 x0 x1 x2 x3 9 (by decide) 0 (by decide) _ _ _ x _ _ (by omega) (by omega))
  case piece51 => exact (congrFun (store51 _ _ _ _) x).trans (piece5 x0 x1 x2 x3 8 (by decide) 0 (by decide) _ _ _ x _ _ (by omega) (by omega))
  case piece52 => exact (congrFun (store52 _ _ _ _) x).trans (piece5 x0 x1 x2 x3 7 (by decide) 0 (by decide) _ _ _ x _ _ (by omega) (by omega))
  case piece53 => exact (congrFun (store53 _ _ _ _) x).trans (piece5 x0 x1 x2 x3 6 (by decide) 0 (by decide) _ _ _ x _ _ (by omega) (by omega))
  case piece54 => exact (congrFun (store54 _ _ _ _) x).trans (piece5 x0 x1 x2 x3 5 (by decide) 0 (by decide) _ _ _ x _ _ (by omega) (by omega))
  case piece55 => exact (congrFun (store55 _ _ _ _) x).trans (piece5 x0 x1 x2 x3 4 (by decide) 0 (by decide) _ _ _ x _ _ (by omega) (by omega))
  case piece56 => exact (congrFun (store56 _ _ _ _) x).trans (piece5 x0 x1 x2 x3 3 (by decide) 0 (by decide) _ _ _ x _ _ (by omega) (by omega))
  case piece57 => exact (congrFun (store57 _ _ _ _) x).trans (piece5 x0 x1 x2 x3 2 (by decide) 0 (by decide) _ _ _ x _ _ (by omega) (by omega))
  case piece58 => exact (congrFun (store58 _ _ _ _) x).trans (piece5 x0 x1 x2 x3 1 (by decide) 0 (by decide) _ _ _ x _ _ (by omega) (by omega))
  case piece59 => exact (congrFun (store59 _ _ _ _) x).trans (piece5 x0 x1 x2 x3 0 (by decide) 0 (by decide) _ _ _ x _ _ (by omega) (by omega))
  case piece60 => exact (congrFun (store60 _ _ _ _) x).trans (piece4 x0 x1 x2 x3 0 (by decide) _ _ _ x _ _ (by omega) (by omega))
  case piece61 => exact (congrFun (store61 _ _ _ _) x).trans (piece3 x0 x1 x2 x3 0 (by decide) _ _ _ x _ _ (by omega) (by omega))
  case piece62 => exact (congrFun (store62 _ _ _ _) x).trans (piece2 x0 x1 x2 x3 0 (by decide) _ _ _ x _ _ (by omega) (by omega))
  case piece63 => exact (congrFun (store63 _ _ _ _) x).trans (piece1 x0 x1 x2 x3 0 (by decide) _ _ _ x _ _ (by omega) (by omega))

end Cert.CaIdeal.Tile

end
-- ==== Proof.CaTable.lean ====
/-
  The bias table that the chunked attention's kernel is given, entry by entry.
-/
module

public import proofs.«01_k».proof.Proof.Gen.CaIdeal.Frame
public import proofs.«01_k».proof.Proof.Soft
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CaIdeal.Table

open Cert.CaIdeal Cert.CaIdeal.Gen

variable (m : (ℓ : Loc nD τ sig) → Buf (Elt Ideal) ℓ)

/-- The quotient of a row of small numbers by 64, as the host computes it: the quotient toward zero, one less where the signs
    differ and the division leaves a rest. -/
def floorRow (x : IVec S1x640 32) : IVec S1x640 32 :=
  let y := broadcastInDim S1x640 ![] bcast_S_S1x640 (constantI S_ 32 64#32)
  select (andi (cmpi .ne (signi x) (broadcastInDim S1x640 ![] bcast_S_S1x640 (signi (constantI S_ 32 64#32))))
      (cmpi .ne (Host.remsi x y) (broadcastInDim S1x640 ![] bcast_S_S1x640 (constantI S_ 32 0#32))))
    (subi (Host.divsi x y) (broadcastInDim S1x640 ![] bcast_S_S1x640 (constantI S_ 32 1#32))) (Host.divsi x y)

/-- The same of a column. -/
def floorCol (x : IVec S128x1 32) : IVec S128x1 32 :=
  let y := broadcastInDim S128x1 ![] bcast_S_S128x1 (constantI S_ 32 64#32)
  select (andi (cmpi .ne (signi x) (broadcastInDim S128x1 ![] bcast_S_S128x1 (signi (constantI S_ 32 64#32))))
      (cmpi .ne (Host.remsi x y) (broadcastInDim S128x1 ![] bcast_S_S128x1 (constantI S_ 32 0#32))))
    (subi (Host.divsi x y) (broadcastInDim S128x1 ![] bcast_S_S128x1 (constantI S_ 32 1#32))) (Host.divsi x y)

/-- How many chunks of 64 a table's column lies after its row, as words. -/
def chunks : IVec S128x640 32 :=
  subi (broadcastInDim S128x640 ![0, 1] bcast_S1x640_S128x640_0_1
      (subi (floorRow (broadcastInDim S1x640 ![1] bcast_S640_S1x640_1 (iotaInDim S640 32 0)))
        (broadcastInDim S1x640 ![] bcast_S_S1x640 (constantI S_ 32 8#32))))
    (broadcastInDim S128x640 ![0, 1] bcast_S128x1_S128x640_0_1
      (floorCol (broadcastInDim S128x1 ![0] bcast_S128_S128x1_0 (iotaInDim S128 32 0))))

/-- Which of the table's places are in the band of chunks. -/
def inBand : IVec S128x640 1 :=
  andi (cmpi .sge chunks (broadcastInDim S128x640 ![] bcast_S_S128x640 (constantI S_ 32 4294967288#32)))
    (cmpi .sle chunks (broadcastInDim S128x640 ![] bcast_S_S128x640 (constantI S_ 32 0#32)))

/-- The biases of all the distances, the first and the last one repeated. -/
def distances (rb : FVec Ideal S1x8x192 .f32) : FVec Ideal S8x768 .f32 :=
  let x := shapeCast S8x192 rb shapeCasts_S1x8x192_S8x192
  concatenate S8x768 1 [⟨S8x511, broadcastInDim S8x511 ![0, 1] bcast_S8x1_S8x511_0_1
      (extractStridedSlice S8x1 ![0, 0] x slices_S8x192_S8x1_0_0)⟩, ⟨S8x192, x⟩,
    ⟨S8x65, broadcastInDim S8x65 ![0, 1] bcast_S8x1_S8x65_0_1 (extractStridedSlice S8x1 ![0, 191] x slices_S8x192_S8x1_0_191)⟩]
    concatenates_S8x511_S8x192_S8x65_S8x768_d1

/-- The biases skewed: row `a` of a head's table starts at distance `-a`. -/
def skewed (rb : FVec Ideal S1x8x192 .f32) : FVec Ideal S8x128x640 .f32 :=
  extractStridedSlice S8x128x640 ![0, 0, 127]
    (shapeCast S8x128x767 (extractStridedSlice S8x98176 ![0, 0]
      (shapeCast S8x98304 (broadcastInDim S1x8x128x768 ![0, 1, 2, 3] bcast_S1x8x1x768_S1x8x128x768_0_1_2_3
        (shapeCast S1x8x1x768 (distances rb) shapeCasts_S8x768_S1x8x1x768)) shapeCasts_S1x8x128x768_S8x98304)
      slices_S8x98304_S8x98176_0_0) shapeCasts_S8x98176_S8x128x767) slices_S8x128x767_S8x128x640_0_0_127

/-- The table as the host computes it. -/
def hostTable (rb : FVec Ideal S1x8x192 .f32) : FVec Ideal S8x128x640 .f32 :=
  select (broadcastInDim S8x128x640 ![0, 1, 2] bcast_S1x128x640_S8x128x640_0_1_2
      (broadcastInDim S1x128x640 ![1, 2] bcast_S128x640_S1x128x640_1_2 inBand))
    (skewed rb) (broadcastInDim S8x128x640 ![] bcast_S_S8x128x640 (constant (F := Ideal) S_ .f32 0xFF800000#32))

set_option maxRecDepth 65536 in
set_option maxHeartbeats 1600000 in
/-- That table is what the kernel's last operand holds. -/
theorem host_table (c : Dev nD) : V m c main_v29 = hostTable (m ((c.tc : Thread nD τ).loc main_arg1)) := by
  unfold V
  simp only [hostOps0, hostOps0_1, hostOps0_2, hostOps0_3, hostOps0_4, hostOps0_5, List.flatten_cons, List.flatten_nil, List.cons_append, List.nil_append]
  after_results
  rfl

/-- The skewed biases, entry by entry. -/
theorem skewed_at (rb : FVec Ideal S1x8x192 .f32) (h : Fin 8) (a : Fin 128) (k : Fin 640) :
    skewed rb (ix3 h a k) = rb (ix3 0 h ⟨min (k.val - (a.val + 384)) 191, by omega⟩) := by
  pointwise [skewed, distances]
  have e : (a.val * 767 + (127 + k.val)) % 768 = 127 + k.val - a.val := by omega
  split_ifs with h1 h2
  all_goals exact congrArg rb (by blk_ext)

/-- A small number's quotient by 64 as the host computes it. -/
def quotient (x : BitVec 32) : BitVec 32 :=
  Scalar.select
    (IntOp.andi (IntOp.cmpi .ne (if x = 0 then 0 else if x.msb = true then -1 else 1 : BitVec 32)
        (if 64#32 = 0 then 0 else if (64#32).msb = true then -1 else 1 : BitVec 32))
      (IntOp.cmpi .ne (IntOp.remsi .host x 64#32) 0#32))
    (IntOp.subi (IntOp.divsi .host x 64#32) 1#32) (IntOp.divsi .host x 64#32)

/-- It is the quotient of the natural numbers. -/
theorem quotient_eq : ∀ n : Fin 640, quotient (BitVec.ofNat 32 n.val) = BitVec.ofNat 32 (n.val / 64) := by decide +kernel

/-- The comparisons of the chunks' words are those of the numbers. -/
theorem compare_eq : ∀ (p : Fin 2) (q : Fin 10),
    IntOp.andi (IntOp.cmpi .sge (IntOp.subi (IntOp.subi (BitVec.ofNat 32 q.val) 8#32) (BitVec.ofNat 32 p.val)) 4294967288#32)
      (IntOp.cmpi .sle (IntOp.subi (IntOp.subi (BitVec.ofNat 32 q.val) 8#32) (BitVec.ofNat 32 p.val)) 0#32)
    = if p.val ≤ q.val ∧ q.val ≤ p.val + 8 then 1#1 else 0#1 := by decide +kernel

/-- Which places are in the band, in natural numbers. -/
theorem inBand_at (a : Fin 128) (k : Fin 640) :
    inBand (ix2 a k) = if a.val / 64 ≤ k.val / 64 ∧ k.val / 64 ≤ a.val / 64 + 8 then 1#1 else 0#1 := by
  pointwise [inBand, chunks, floorRow, floorCol]
  have hk := quotient_eq k
  have ha := quotient_eq ⟨a.val, by omega⟩
  have hc := compare_eq ⟨a.val / 64, by omega⟩ ⟨k.val / 64, by omega⟩
  change IntOp.andi
      (IntOp.cmpi .sge (IntOp.subi (IntOp.subi (quotient (BitVec.ofNat 32 k.val)) 8#32) (quotient (BitVec.ofNat 32 a.val))) 4294967288#32)
      (IntOp.cmpi .sle (IntOp.subi (IntOp.subi (quotient (BitVec.ofNat 32 k.val)) 8#32) (quotient (BitVec.ofNat 32 a.val))) 0#32) = _
  rw [hk, ha]
  exact hc

/-- The table, entry by entry: the clipped distance's bias in the band of chunks, −∞ elsewhere. -/
theorem table_at (c : Dev nD) (h : Fin 8) (a : Fin 128) (k : Fin 640) :
    (V m c main_v29 : FVec Ideal S8x128x640 .f32) (ix3 h a k) = if a.val / 64 ≤ k.val / 64 ∧ k.val / 64 ≤ a.val / 64 + 8
      then (m ((c.tc : Thread nD τ).loc main_arg1) : FVec Ideal S1x8x192 .f32)
        (ix3 0 h ⟨min (k.val - (a.val + 384)) 191, by omega⟩) else (⊥ : EReal) := by
  rw [host_table]
  generalize (m ((c.tc : Thread nD τ).loc main_arg1) : FVec Ideal S1x8x192 .f32) = rb
  pointwise [hostTable]
  rw [inBand_at, skewed_at]
  split_ifs <;> simp [Scalar.select, Ideal.ofBits, Ideal.ieee]

end Cert.CaIdeal.Table

end
-- ==== Proof.CaRef.lean ====
/-
  The chunked attention's reference, over the real numbers, entry by entry: the sum of the values with the softmax weights of
  the scores.
-/
module

public import proofs.«01_k».proof.Proof.Gen.CaRefIdeal.Read
public import proofs.«01_k».proof.Proof.Soft
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.CaRefIdeal.Band

open Cert.CaRefIdeal Cert.CaRefIdeal.Gen Cert.CaRefIdeal.Read Cert.Soft

/-- The place in a head's biases of a key `x` positions after the query, as the reference computes it: `x` clipped to −128 … 63
    and moved up by 128, one round of the array more when that is negative. -/
def place (x : BitVec 32) : BitVec 32 :=
  Scalar.select (IntOp.cmpi .slt (IntOp.addi (IntOp.minsi 63#32 (IntOp.maxsi 4294967168#32 x)) 128#32) 0#32)
    (IntOp.addi (IntOp.addi (IntOp.minsi 63#32 (IntOp.maxsi 4294967168#32 x)) 128#32) 192#32)
    (IntOp.addi (IntOp.minsi 63#32 (IntOp.maxsi 4294967168#32 x)) 128#32)

/-- The place in natural numbers, for every distance there is. -/
theorem place_eq : ∀ n : Fin 4096, place (IntOp.subi (BitVec.ofNat 32 n.val) 2047#32) = BitVec.ofNat 32 (min (n.val - 1919) 191) := by
  decide +kernel

/-- The places, entry by entry. -/
theorem place_at (q k : Fin 2048) :
    val_main_v24 (F := Ideal) (ix2 q k) = BitVec.ofNat 32 (min (k.val + 128 - q.val) 191) := by
  have e : IntOp.subi (BitVec.ofNat 32 k.val) (BitVec.ofNat 32 q.val)
      = IntOp.subi (BitVec.ofNat 32 (k.val + 2047 - q.val)) 2047#32 := by
    have hk := k.isLt
    have hq := q.isLt
    apply BitVec.eq_of_toNat_eq
    simp only [IntOp.subi, BitVec.toNat_sub, BitVec.toNat_ofNat]
    omega
  have h := place_eq ⟨k.val + 2047 - q.val, by omega⟩
  pointwise [val_main_v24, val_main_v23, val_main_v22, val_main_v21, val_main_v20, val_main_v19, val_main_v18, val_main_v17,
    val_main_v16, val_main_v15, val_main_v14, val_main_v13, val_main_v12, val_main_v7, val_main_call0_v0, val_main_call0_v1,
    val_main_call0_v2, val_main_call0_v3, val_main_call0_v4, val_main_c, val_main_c_0, val_main_c_1, val_main_c_2, val_main_c_3]
  change place (IntOp.subi (BitVec.ofNat 32 k.val) (BitVec.ofNat 32 q.val)) = _
  rw [e, h]
  show BitVec.ofNat 32 (min (k.val + 2047 - q.val - 1919) 191) = _
  congr 1
  omega

/-- The comparisons of the chunks' words are those of the numbers. -/
theorem chunk_eq : ∀ p q : Fin 32,
    IntOp.andi (IntOp.cmpi .sge (IntOp.subi (BitVec.ofNat 32 p.val) (BitVec.ofNat 32 q.val)) 0#32)
      (IntOp.cmpi .sle (IntOp.subi (BitVec.ofNat 32 p.val) (BitVec.ofNat 32 q.val)) 8#32)
    = if q.val ≤ p.val ∧ p.val ≤ q.val + 8 then 1#1 else 0#1 := by decide +kernel

/-- The band, entry by entry: the key's chunk is the query's or one of the eight before it. -/
theorem band_at (q k : Fin 2048) :
    val_main_v40 (F := Ideal) (ix2 q k) = if k.val / 64 ≤ q.val / 64 ∧ q.val / 64 ≤ k.val / 64 + 8 then 1#1 else 0#1 := by
  pointwise [val_main_v40, val_main_v39, val_main_v38, val_main_v37, val_main_v36, val_main_v31, val_main_v30, val_main_v29,
    val_main_v28, val_main_v27, val_main_v10, val_main_v9, val_main_v8, val_main_c_4, val_main_c_5]
  exact chunk_eq ⟨q.val / 64, by omega⟩ ⟨k.val / 64, by omega⟩

/-- The looked-up biases, entry by entry. -/
theorem bias_at (x1 : FVec Ideal S1x8x192 .f32) (h : Fin 8) (q k : Fin 2048) :
    val_main_v26 (F := Ideal) x1 (ix3 h q k) = x1 (ix3 0 h ⟨min (k.val + 128 - q.val) 191, by omega⟩) := by
  have hx : ∀ (h : Fin 8) (n : Fin 192), val_main_v11 (F := Ideal) x1 (ix2 h n) = x1 (ix3 0 h n) := fun h n => by
    pointwise [val_main_v11]
  have hp : val_main_v25 (F := Ideal) (ix3 q k 0) = BitVec.ofNat 32 (min (k.val + 128 - q.val) 191) := by
    rw [← place_at]
    pointwise [val_main_v25]
  rw [← hx]
  unfold val_main_v26 Host.gather
  congr 1
  funext a
  refine Fin.ext ?_
  let G := gather_S8x192_S2048x2048x1_S8x2048x2048_0_1_n_n_1_2_81
  show G.start (ix3 h q k) (val_main_v25 (F := Ideal)) a + G.batchCoord (ix3 h q k) a + G.offCoord (ix3 h q k) a = _
  rw [GatherDims.batchCoord_eq_zero G _ _ List.not_mem_nil, Nat.add_zero]
  unfold GatherDims.start GatherDims.offCoord
  have h01 : a = 0 ∨ a = 1 := by
    match a with
    | ⟨0, _⟩ => exact Or.inl rfl
    | ⟨1, _⟩ => exact Or.inr rfl
  rcases h01 with rfl | rfl
  · rw [dif_neg (show ¬ ((0 : Fin 2) ∈ G.startIndexMap) by decide), dif_pos (show (0 : Fin 2) ∈ G.sKept by decide)]
    rw [Nat.zero_add]
    rfl
  · rw [dif_pos (show (1 : Fin 2) ∈ G.startIndexMap by decide), dif_neg (show ¬ ((1 : Fin 2) ∈ G.sKept) by decide)]
    have hsi : G.siIdx (ix3 h q k) ⟨List.idxOf (1 : Fin 2) G.startIndexMap,
        List.idxOf_lt_length_iff.2 (by decide)⟩ = ix3 q k 0 := by
      funext b
      refine Fin.ext ?_
      match b with
      | ⟨0, _⟩ => rfl
      | ⟨1, _⟩ => rfl
      | ⟨2, _⟩ => rfl
    rw [hsi, hp]
    show min (BitVec.ofNat 32 (min (k.val + 128 - q.val) 191)).toInt.toNat 191 = min (k.val + 128 - q.val) 191
    have hn : ∀ n : Fin 192, (BitVec.ofNat 32 n.val).toInt.toNat = n.val := by decide +kernel
    rw [hn ⟨min (k.val + 128 - q.val) 191, by omega⟩]
    exact min_eq_left (by simp only; omega)

/-- The score of a key for a query of a head: the inner product and the bias of the clipped distance in the band, −∞ elsewhere. -/
def score (x0 : FVec Ideal S8x2048x10240 .bf16) (x1 : FVec Ideal S1x8x192 .f32) (b h : Fin 8) (q k : Fin 2048) : EReal :=
  if k.val / 64 ≤ q.val / 64 ∧ q.val / 64 ≤ k.val / 64 + 8 then
    (∑ e : Fin 128, x0 (ix3 b q ⟨3072 + (h.val * 128 + e.val), by omega⟩) * x0 (ix3 b k ⟨4096 + (h.val * 128 + e.val), by omega⟩))
      + x1 (ix3 0 h ⟨min (k.val + 128 - q.val) 191, by omega⟩)
  else ⊥

/-- The bits of −∞ denote −∞. -/
theorem neg_inf : Ideal.ofBits FTy.f32 4286578688#32 = ⊥ := by
  simp [Ideal.ofBits, Ideal.ieee]

/-- The masked scores, entry by entry. -/
theorem score_at (x0 : FVec Ideal S8x2048x10240 .bf16) (x1 : FVec Ideal S1x8x192 .f32) (b h : Fin 8) (q k : Fin 2048) :
    val_main_v41 (F := Ideal) x0 x1 (ix4 b h q k) = score x0 x1 b h q k := by
  have hb := bias_at x1 h q k
  have hm := band_at q k
  pointwise [val_main_v41, val_main_call1_v0, val_main_call1_v1, val_main_call1_v2, val_main_cst, val_main_v35, val_main_v34,
    val_main_v33, val_main_v32, val_main_v4, val_main_v3, val_main_v2, val_main_v1, val_main_v0]
  rw [hb, hm]
  show Scalar.select _ _ (Ideal.ofBits FTy.f32 4286578688#32) = _
  rw [neg_inf]
  unfold score
  split_ifs <;> rfl

/-- The largest entry of a row of an array, from −∞ on. -/
theorem largest_at (y : FVec Ideal S8x8x2048x2048 .f32) (b h : Fin 8) (q : Fin 2048) :
    Host.reduce FloatOps.maximumf y (val_main_cst_6 (F := Ideal)) reducesTo_S8x8x2048x2048_S8x8x2048_d3 h_S_ (ix3 b h q)
      = top (fun s => y (ix4 b h q s)) := by
  have e : ∀ n : EReal, n = ⊥ → Finset.univ.fold max n (fun s => y (ix4 b h q s)) = top (fun s => y (ix4 b h q s)) := by
    rintro n rfl
    rfl
  pointwise [val_main_cst_6]
  exact e _ neg_inf

/-- The shift of a row, entry by entry: the row's largest score. -/
theorem shift_at (x0 : FVec Ideal S8x2048x10240 .bf16) (x1 : FVec Ideal S1x8x192 .f32) (b h : Fin 8) (q k : Fin 2048) :
    val_main_v46 (F := Ideal) x0 x1 (ix4 b h q k) = top (score x0 x1 b h q) := by
  have e : val_main_v42 (F := Ideal) x0 x1 (ix3 b h q) = top (score x0 x1 b h q) := by
    unfold val_main_v42
    rw [largest_at]
    exact congrArg top (funext fun s => score_at x0 x1 b h q s)
  have e4 : val_main_v44 (F := Ideal) x0 x1 (ix3 b h q) = top (score x0 x1 b h q) := by
    rw [val_main_v44_apply, e, val_main_v43_apply, val_main_cst_7_apply]
    show max (Ideal.ofBits FTy.f32 4286578688#32) _ = _
    rw [neg_inf]
    exact max_eq_right bot_le
  rw [val_main_v46_apply, val_main_v45_apply, ← e4]
  exact congrArg _ (by blk_ext)

/-- The exponentials, entry by entry. -/
theorem power_at (x0 : FVec Ideal S8x2048x10240 .bf16) (x1 : FVec Ideal S1x8x192 .f32) (b h : Fin 8) (q k : Fin 2048) :
    val_main_v48 (F := Ideal) x0 x1 (ix4 b h q k) = Ideal.exp (score x0 x1 b h q k - top (score x0 x1 b h q)) := by
  rw [val_main_v48_apply, val_main_v47_apply, score_at, shift_at]
  rfl

/-- The normalized weights, entry by entry. -/
theorem weight_at (x0 : FVec Ideal S8x2048x10240 .bf16) (x1 : FVec Ideal S1x8x192 .f32) (b h : Fin 8) (q k : Fin 2048) :
    val_main_v52 (F := Ideal) x0 x1 (ix4 b h q k)
      = Ideal.div (Ideal.exp (score x0 x1 b h q k - top (score x0 x1 b h q)))
        (∑ s, Ideal.exp (score x0 x1 b h q s - top (score x0 x1 b h q))) := by
  have e : val_main_v51 (F := Ideal) x0 x1 (ix4 b h q k) = ∑ s, Ideal.exp (score x0 x1 b h q s - top (score x0 x1 b h q)) := by
    rw [val_main_v51_apply, val_main_v50_apply, val_main_v49_apply, val_main_cst_8_apply]
    have e0 : (Scalar.ofBits (F := Ideal) .f32 0x00000000#32 : EReal) = 0 := by
      show Ideal.ofBits FTy.f32 0#32 = 0
      simp [Ideal.ofBits, Ideal.ieee]
    rw [show ∀ a : EReal, (Scalar.ofBits (F := Ideal) .f32 0x00000000#32 : EReal) + a = a from fun a => by rw [e0, zero_add]]
    refine Finset.sum_congr rfl fun s _ => ?_
    rw [← power_at]
    exact congrArg _ (by blk_ext)
  rw [val_main_v52_apply, power_at, e]
  rfl

/-- The result, entry by entry. -/
theorem result_at (x0 : FVec Ideal S8x2048x10240 .bf16) (x1 : FVec Ideal S1x8x192 .f32) (b h : Fin 8) (q : Fin 2048) (d : Fin 128) :
    val_main_v56 (F := Ideal) x0 x1 (ix3 b q ⟨h.val * 128 + d.val, by omega⟩)
      = ∑ s, Ideal.div (Ideal.exp (score x0 x1 b h q s - top (score x0 x1 b h q)))
        (∑ s, Ideal.exp (score x0 x1 b h q s - top (score x0 x1 b h q)))
        * x0 (ix3 b s ⟨5120 + (h.val * 128 + d.val), by omega⟩) := by
  have hw := weight_at x0 x1 b h q
  pointwise [val_main_v56, val_main_v55, val_main_v54, val_main_v53, val_main_v6, val_main_v5, val_main_v0]
  refine Finset.sum_congr rfl fun s _ => ?_
  rw [hw, mul_comm]

end Cert.CaRefIdeal.Band

end
-- ==== Proof.CaValue.lean ====
/-
  The value of the chunked attention, over the real numbers: the array the kernel's run leaves is the reference's result on
  the same arguments.
-/
module

public import proofs.«01_k».proof.Proof.Gen.CaIdeal.Frame
public import proofs.«01_k».proof.Proof.CaBlock
public import proofs.«01_k».proof.Proof.CaTable
public import proofs.«01_k».proof.Proof.CaRef
public import proofs.«01_k».proof.Pre_finite
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CaIdeal.Value

open Cert.CaIdeal Cert.CaIdeal.Gen Cert.Soft

variable (m : (ℓ : Loc nD τ sig) → Buf (Elt Ideal) ℓ)

/-- The projected rows: queries, keys and values side by side. -/
abbrev rows (c : Dev nD) : FVec Ideal S8x2048x10240 .bf16 := m ((c.tc : Thread nD τ).loc main_arg0)

/-- The biases by head and clipped distance. -/
abbrev biases (c : Dev nD) : FVec Ideal S1x8x192 .f32 := m ((c.tc : Thread nD τ).loc main_arg1)

/-- The reference's result on the kernel's arguments. -/
abbrev result (c : Dev nD) : FVec Ideal Cert.CaRefIdeal.S8x2048x1024 .bf16 :=
  Cert.CaRefIdeal.Read.val_main_v56 (F := Ideal) (m ((c.tc : Thread nD τ).loc main_arg0)) (m ((c.tc : Thread nD τ).loc main_arg1))

/-- Where each window's block lies at grid point `t`: one sequence and one half of the heads. -/
theorem blockIndex : ∀ t : Fin cfg0.N, win0_0.index t = ![t.val / 2, 0, 6 + t.val % 2] ∧ win0_1.index t = ![t.val / 2, 0, 8 + t.val % 2]
    ∧ win0_2.index t = ![t.val / 2, 0, 10 + t.val % 2] ∧ win0_3.index t = ![t.val % 2, 0, 0]
    ∧ win0_4.index t = ![t.val / 2, 0, t.val % 2] :=
  (by decide +kernel : ∀ t : Fin grid0.N, _)

/-- The sequence of grid point `t`. -/
abbrev seq (t : Fin cfg0.N) : Fin 8 := ⟨t.val / 2, by have : t.val < 16 := t.isLt; omega⟩

/-- The head of a column of grid point `t`'s blocks. -/
abbrev head (t : Fin cfg0.N) (x : Fin 512) : Fin 8 := ⟨4 * (t.val % 2) + x.val / 128, by omega⟩

/-- The index in the result of an index of its block. -/
theorem result_index (t : Fin cfg0.N) (z : Fin 1) (r : Fin 2048) (x : Fin 512) :
    ((cfg0.win 4).blk t).view.emb (ix3 z r x) = ix3 (seq t) r (⟨512 * (t.val % 2) + x.val, by omega⟩ : Fin 1024) := by
  blk_ext [blockIndex t]

/-- The queries. -/
theorem read_0 (c : Dev nD) (t : Fin cfg0.N) (r : Fin 2048) (x : Fin 512) :
    iblk m c 0 t (ix3 0 r x) = m ((c.tc : Thread nD τ).loc main_arg0)
      (ix3 (seq t) r ⟨3072 + (512 * (t.val % 2) + x.val), by omega⟩) := by
  blk_point [iblk, V, blockIndex t]

/-- The keys. -/
theorem read_1 (c : Dev nD) (t : Fin cfg0.N) (r : Fin 2048) (x : Fin 512) :
    iblk m c 1 t (ix3 0 r x) = m ((c.tc : Thread nD τ).loc main_arg0)
      (ix3 (seq t) r ⟨4096 + (512 * (t.val % 2) + x.val), by omega⟩) := by
  blk_point [iblk, V, blockIndex t]

/-- The values. -/
theorem read_2 (c : Dev nD) (t : Fin cfg0.N) (r : Fin 2048) (x : Fin 512) :
    iblk m c 2 t (ix3 0 r x) = m ((c.tc : Thread nD τ).loc main_arg0)
      (ix3 (seq t) r ⟨5120 + (512 * (t.val % 2) + x.val), by omega⟩) := by
  blk_point [iblk, V, blockIndex t]

/-- The bias table. -/
theorem read_3 (c : Dev nD) (t : Fin cfg0.N) (h : Fin 4) (a : Fin 128) (k : Fin 640) :
    iblk m c 3 t (ix3 h a k) = if a.val / 64 ≤ k.val / 64 ∧ k.val / 64 ≤ a.val / 64 + 8
      then biases m c (ix3 0 ⟨4 * (t.val % 2) + h.val, by omega⟩ ⟨min (k.val - (a.val + 384)) 191, by omega⟩) else (⊥ : EReal) := by
  refine Eq.trans ?_ (Table.table_at m c ⟨4 * (t.val % 2) + h.val, by omega⟩ a k)
  unfold iblk
  generalize V m c = w
  blk_point [blockIndex t]

/-- The kernel's score on blocks that hold one sequence's rows and one half of the heads' biases is the reference's. -/
theorem score_of (x0 x1 : Vec Ideal S1x2048x512 .bf16) (x3 : Vec Ideal S4x128x640 .f32) (R : FVec Ideal S8x2048x10240 .bf16)
    (B : FVec Ideal S1x8x192 .f32) (b : Fin 8) (g : ℕ) (hg : g < 2)
    (h0 : ∀ (r : Fin 2048) (x : Fin 512), x0 (ix3 0 r x) = R (ix3 b r ⟨3072 + (512 * g + x.val), by omega⟩))
    (h1 : ∀ (r : Fin 2048) (x : Fin 512), x1 (ix3 0 r x) = R (ix3 b r ⟨4096 + (512 * g + x.val), by omega⟩))
    (h3 : ∀ (h : Fin 4) (a : Fin 128) (k : Fin 640), x3 (ix3 h a k) = if a.val / 64 ≤ k.val / 64 ∧ k.val / 64 ≤ a.val / 64 + 8
      then B (ix3 0 ⟨4 * g + h.val, by omega⟩ ⟨min (k.val - (a.val + 384)) 191, by omega⟩) else (⊥ : EReal))
    (r : Fin 2048) (x : Fin 512) (s : Fin 2048) :
    Tile.score x0 x1 x3 r x s = Cert.CaRefIdeal.Band.score R B b ⟨4 * g + x.val / 128, by omega⟩ r s := by
  have hr := r.isLt
  have hx := x.isLt
  have hs := s.isLt
  unfold Tile.score Cert.CaRefIdeal.Band.score
  by_cases hb : s.val / 64 ≤ r.val / 64 ∧ r.val / 64 ≤ s.val / 64 + 8
  · rw [dif_pos (by omega), if_pos hb, h3, if_pos (by simp only; omega)]
    congr 1
    · refine Finset.sum_congr rfl fun e _ => ?_
      rw [h0, h1]
      congr 2 <;> exact congrArg (ix3 _ _) (Fin.ext (by simp only; omega))
    · exact congrArg (fun n => B (ix3 0 _ n)) (Fin.ext (by simp only; omega))
  · rw [if_neg hb]
    split_ifs with h
    · rw [h3, if_neg (by simp only; omega), EReal.add_bot]
    · rfl

/-- The kernel's score is the reference's. -/
theorem score_eq (c : Dev nD) (t : Fin cfg0.N) (r : Fin 2048) (x : Fin 512) (s : Fin 2048) :
    Tile.score (iblk m c 0 t) (iblk m c 1 t) (iblk m c 3 t) r x s
      = Cert.CaRefIdeal.Band.score (rows m c) (biases m c) (seq t) (head t x) r s :=
  score_of _ _ _ _ _ (seq t) (t.val % 2) (by omega) (read_0 m c t) (read_1 m c t) (read_3 m c t) r x s

/-- The arguments that the scores read are real numbers. -/
structure Finite (c : Dev nD) : Prop where
  rows : ∀ (b : Fin 8) (q : Fin 2048) (n : Fin 2048), ∃ x : ℝ, rows m c (ix3 b q ⟨3072 + n.val, by omega⟩) = (x : EReal)
  biases : ∀ (h : Fin 8) (n : Fin 192), ∃ x : ℝ, biases m c (ix3 0 h n) = (x : EReal)

variable {m}

/-- In the band the score is a real number. -/
theorem score_real {c : Dev nD} (hf : Finite m c) (b h : Fin 8) (q k : Fin 2048)
    (hb : k.val / 64 ≤ q.val / 64 ∧ q.val / 64 ≤ k.val / 64 + 8) :
    ∃ x : ℝ, Cert.CaRefIdeal.Band.score (rows m c) (biases m c) b h q k = (x : EReal) := by
  choose f hx using hf.rows
  obtain ⟨y, hy⟩ := hf.biases h ⟨min (k.val + 128 - q.val) 191, by omega⟩
  refine ⟨(∑ e : Fin 128, f b q ⟨h.val * 128 + e.val, by omega⟩ * f b k ⟨1024 + (h.val * 128 + e.val), by omega⟩) + y, ?_⟩
  unfold Cert.CaRefIdeal.Band.score
  rw [if_pos hb, EReal.coe_add, coe_sum, ← hy]
  congr 1
  refine Finset.sum_congr rfl fun e _ => ?_
  rw [EReal.coe_mul, ← hx, ← hx]
  congr 1
  exact congrArg _ (by blk_ext)

/-- One entry of the block that the body stores at grid point `t` is the reference's entry at the block's place. -/
theorem entry {c : Dev nD} (hf : Finite m c) (t : Fin cfg0.N) (y : S1x2048x512.Idx) :
    out0_4 (iblk m c 0 t) (iblk m c 1 t) (iblk m c 2 t) (iblk m c 3 t) y
    = result m c (((cfg0.win 4).blk t).view.emb y) := by
  obtain ⟨z, r, x, rfl⟩ : ∃ z r x, y = ix3 z r x := ⟨y 0, y 1, y 2, by blk_ext⟩
  have hx := x.isLt
  rw [Tile.out_at, result_index]
  show Tile.cell _ _ _ _ r x = result m c (ix3 (seq t) r ⟨512 * (t.val % 2) + x.val, by omega⟩)
  have ei : (⟨512 * (t.val % 2) + x.val, by omega⟩ : Fin 1024)
      = ⟨(head t x).val * 128 + (⟨x.val % 128, by omega⟩ : Fin 128).val, by simp only; omega⟩ := Fin.ext (by simp only; omega)
  unfold result
  rw [ei, Cert.CaRefIdeal.Band.result_at]
  unfold Tile.cell
  rw [show Tile.score (iblk m c 0 t) (iblk m c 1 t) (iblk m c 3 t) r x
    = Cert.CaRefIdeal.Band.score (rows m c) (biases m c) (seq t) (head t x) r from funext fun s => score_eq m c t r x s]
  have hd := score_real hf (seq t) (head t x) r r (by omega)
  rw [mean_eq_sum _ _ (fun s => ?_) r (by obtain ⟨w, hw⟩ := hd; rw [hw]; exact EReal.coe_ne_bot w)]
  · refine Finset.sum_congr rfl fun s _ => ?_
    congr 1
    rw [read_2]
    exact congrArg _ (by blk_ext)
  · by_cases hb : s.val / 64 ≤ r.val / 64 ∧ r.val / 64 ≤ s.val / 64 + 8
    · obtain ⟨w, hw⟩ := score_real hf (seq t) (head t x) r s hb
      rw [hw]
      exact EReal.coe_ne_top w
    · unfold Cert.CaRefIdeal.Band.score
      rw [if_neg hb]
      exact bot_ne_top

/-- The array the kernel leaves is the reference's result. -/
theorem final {c : Dev nD} (hf : Finite m c) : (dats m 0 c).arrAt 4 (cfgs 0).N = result m c := by
  refine (dats m 0 c).arrAt_eq_of_covers 4 _ (by decide +kernel) fun t _ y => ?_
  blk_simp
  rw [after0_4]
  exact entry hf t y

/-- A number whose absolute value lies below +∞ is real. -/
theorem real_of_abs (x : EReal) (h : BitVec.ofBool (decide (FloatOps.absf (F := Ideal) (φ := .f32) x < Ideal.ofBits FTy.f32 2139095040#32)) = 1#1) :
    ∃ y : ℝ, x = (y : EReal) := by
  have e : Ideal.ofBits FTy.f32 2139095040#32 = ⊤ := by simp [Ideal.ofBits, Ideal.ieee]
  rw [e] at h
  induction x using EReal.rec with
  | bot => exact absurd h (by simp [FloatOps.absf])
  | top => exact absurd h (by simp [FloatOps.absf])
  | coe y => exact ⟨y, rfl⟩

/-- The shapes that the precondition's operations ask for. -/
theorem facts : Cert.Pre_finite.Facts where
  slices_S8x2048x10240_S8x2048x2048_0_0_3072 := by decide
  bitsLt_bf16_f32 := by decide
  bcast_S_S8x2048x2048 := by decide
  bcast_S_S1x8x192 := by decide

/-- The precondition says so. -/
theorem finite_of_pre [hP : Cert.Pre_finite.Facts] (c : Dev nD)
    (h1 : (Cert.Pre_finite.fn (F := Ideal) (rows m c) (biases m c)).1 = fun _ => 1#1)
    (h2 : (Cert.Pre_finite.fn (F := Ideal) (rows m c) (biases m c)).2 = fun _ => 1#1) : Finite m c := by
  refine ⟨fun b q n => ?_, fun h n => ?_⟩
  · have h := congrFun h1 (ix3 b q n)
    revert h
    pointwise [Cert.Pre_finite.fn]
    exact real_of_abs _
  · have h := congrFun h2 (ix3 0 h n)
    revert h
    pointwise [Cert.Pre_finite.fn]
    exact real_of_abs _

end Cert.CaIdeal.Value

end
-- ==== Proof.SbIdealLoop.lean ====
/-
  The two loops on a condition of the call with the first attention, for any number type: they end, since the counter they
  test falls at each trip, and they write only the two scratch buffers.
-/
module

public import proofs.«01_k».proof.Proof.Gen.SbIdeal.Launch
public import proofs.«01_k».proof.Proof.Gen.SbIdeal.Skeleton
public import proofs.«01_k».proof.Proof.Gen.SbIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.SbIdeal.Hand

open Cert.SbIdeal Cert.SbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The counter of the two loops on a condition -/

/-- The loops count with naturals: the trips that may still run. -/
abbrev 𝒱₀ : Variants := Variants.nat

theorem and_one : ∀ x y : BitVec 1, x &&& y = 1#1 → x = 1#1 := by decide

/-- The test passes only at a counter that is not negative. -/
theorem nonneg_of_test (a : BitVec 32) (b : BitVec 1)
    (h : Scalar.andi (Scalar.cmpi .sge a 0#32) b = 1#1) : 0 ≤ a.toInt := by
  have h1 : Scalar.cmpi .sge a 0#32 = 1#1 := and_one _ _ h
  have h2 : BitVec.ofBool (decide ((0#32 : BitVec 32).toInt ≤ a.toInt)) = 1#1 := h1
  by_cases h3 : (0#32 : BitVec 32).toInt ≤ a.toInt
  · simpa using h3
  · rw [decide_eq_false h3] at h2; exact absurd h2 (by decide)

/-- A counter between 0 and 7 is the word of a natural below 8. -/
theorem word_of_bounds (a : BitVec 32) (h0 : 0 ≤ a.toInt) (h8 : a.toInt < 8) :
    ∃ j : Fin 8, a = BitVec.ofNat 32 j.val := by
  have ht : (a.toNat : ℤ) = a.toInt := by
    rw [BitVec.toInt_eq_toNat_cond] at h0 ⊢
    have := a.isLt
    split at h0 <;> split <;> omega
  refine ⟨⟨a.toNat, by omega⟩, ?_⟩
  exact BitVec.eq_of_toNat_eq (by simp [BitVec.toNat_ofNat, Nat.mod_eq_of_lt a.isLt])

theorem chk1_all : ∀ j : Fin 8, k0_chk1 (BitVec.ofNat 32 j.val) := by decide
theorem chk2_all : ∀ j : Fin 8, k0_chk2 (BitVec.ofNat 32 j.val) := by decide

/-- The next counter is one less. -/
theorem sub_toInt : ∀ j : Fin 8, (Scalar.subi (BitVec.ofNat 32 j.val) 1#32).toInt = (j.val : ℤ) - 1 := by decide
theorem ofNat_toInt : ∀ j : Fin 8, (BitVec.ofNat 32 j.val).toInt = (j.val : ℤ) := by decide

/-! ## What a loop holds, and its specification -/

/-- The buffers a loop reads and writes: the three inputs at what they hold, the two scratch buffers at anything. -/
def Held (c : Dev nD) (arg3 : Memref sig .tc .vmem S1x512x512 .bf16) (arg4 arg5 : Memref sig .tc .vmem S1x2048x512 .bf16)
    (arg21 : Memref sig .tc .vmem S512x512 .f32) (arg22 : Memref sig .tc .vmem S4x512x1 .f32)
    (x0 : Vec F S1x512x512 .bf16) (x1 x2 : Vec F S1x2048x512 .bf16) : sProp 𝕄 :=
  iprop(owns (c : Thread nD τ) arg3 fullShare x0 ∗ owns (c : Thread nD τ) arg4 fullShare x1
    ∗ owns (c : Thread nD τ) arg5 fullShare x2
    ∗ (∃ d, owns (c : Thread nD τ) arg21 fullShare d) ∗ (∃ d, owns (c : Thread nD τ) arg22 fullShare d))

/-- A loop keeps what it holds and returns a counter below 8. -/
def spec (H : sProp 𝕄) : sWPT 𝕄 (BitVec 32 × BitVec 1) := do
  sWPT.consume H
  let r ← sWPT.arbitrary
  sWPT.assume (r.1.toInt < 8)
  sWPT.produce H
  pure r

theorem spec_apply (H : sProp 𝕄) (K : BitVec 32 × BitVec 1 → sProp 𝕄) :
    spec H K = iprop(H ∗ ∀ r : BitVec 32 × BitVec 1, ⌜r.1.toInt < 8⌝ -∗ (H -∗ K r)) := rfl

set_option maxHeartbeats 4000000 in
/-- Loop 1, entered at counter `arg23` below 8, meets the specification; by induction on the trips that may still run. -/
theorem while1_le (c : Dev nD) (E : Set ℕ) (i : grid0.Coords) (arg3 : Memref sig .tc .vmem S1x512x512 .bf16) (harg3 : arg3.IsWhole)
    (arg4 : Memref sig .tc .vmem S1x2048x512 .bf16) (harg4 : arg4.IsWhole) (v34 : FVec F S256x256 .bf16)
    (arg22 : Memref sig .tc .vmem S4x512x1 .f32) (harg22 : arg22.IsWhole) (arg5 : Memref sig .tc .vmem S1x2048x512 .bf16) (harg5 : arg5.IsWhole)
    (arg21 : Memref sig .tc .vmem S512x512 .f32) (harg21 : arg21.IsWhole)
    (x0 : Vec F S1x512x512 .bf16) (x1 x2 : Vec F S1x2048x512 .bf16) :
    ∀ (k : ℕ) (arg23 : BitVec 32) (arg24 : BitVec 1), arg23.toInt < 8 → (arg23.toInt + 1).toNat = k →
      ∀ K, spec (Held c arg3 arg4 arg5 arg21 arg22 x0 x1 x2) K
        ⊢ wp frame (wpE (defs₀ (F := F)) 𝒱₀ (c : Thread nD τ) (some k)) E
            (cc0_while1 i arg3 harg3 arg4 harg4 v34 arg22 harg22 arg5 harg5 arg21 harg21 arg23 arg24) K := by
  intro k
  induction k using Nat.strong_induction_on with
  | _ k ih =>
  intro arg23 arg24 h8 hk K
  rw [spec_apply]
  simp only [cc0_while1_eq_skeleton]; unfold cc0_while1_skel
  by_cases ht : Scalar.andi (Scalar.cmpi .sge arg23 0#32) arg24 = 1#1
  · have h0 := nonneg_of_test _ _ ht
    obtain ⟨j, rfl⟩ := word_of_bounds arg23 h0 h8
    have hj := ofNat_toInt j
    have hn := sub_toInt j
    have hchk := chk1_all j
    generalize hw : BitVec.ofNat 32 j.val = a at *
    simp only [ht, ↓reduceIte, k0_part16_eq_skeleton, k0_part17_eq_skeleton, k0_part18_eq_skeleton, k0_part19_eq_skeleton, k0_part20_eq_skeleton]
    unfold Held owns
    iintro ⟨⟨⟨%f0, %hf0, H0⟩, ⟨%f1, %hf1, H1⟩, ⟨%f2, %hf2, H2⟩, ⟨%d3, %f3, -, H3⟩, ⟨%d4, %f4, -, H4⟩⟩, Hk⟩
    subst hf0 hf1 hf2
    sl_exec
    iapply (wp_call_spec 𝒱₀ (c : Thread nD τ) (some k) E (spec (Held c arg3 arg4 arg5 arg21 arg22 _ _ _)) (k - 1)
      (fun u hu => by cases hu; exact (by omega : k - 1 < k))
      (ih (k - 1) (by omega) (Scalar.subi a 1#32) _ (by omega) (by omega)))
    rw [spec_apply]; unfold Held owns
    isplitl [H0 H1 H2 H3 H4]
    · isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _, _; isplitr
        swap; · iexact H3
        ipureintro; rfl
      iexists _, _; isplitr
      swap; · iexact H4
      ipureintro; rfl
    iintro %r %hr H
    rw [wp_ret]; imodintro
    iapply Hk
    · ipureintro; exact hr
    · iexact H
  · simp only [ht, ↓reduceIte, Prog.pure_eq_ret]
    iintro ⟨H, Hk⟩
    rw [wp_ret]; imodintro
    iapply Hk
    · ipureintro; exact h8
    · iexact H

set_option maxHeartbeats 4000000 in
/-- Loop 2, entered at counter `arg23` below 8, meets the specification; by induction on the trips that may still run. -/
theorem while2_le (c : Dev nD) (E : Set ℕ) (i : grid0.Coords) (arg3 : Memref sig .tc .vmem S1x512x512 .bf16) (harg3 : arg3.IsWhole)
    (arg4 : Memref sig .tc .vmem S1x2048x512 .bf16) (harg4 : arg4.IsWhole) (v34 : FVec F S256x256 .bf16)
    (arg22 : Memref sig .tc .vmem S4x512x1 .f32) (harg22 : arg22.IsWhole) (arg5 : Memref sig .tc .vmem S1x2048x512 .bf16) (harg5 : arg5.IsWhole)
    (arg21 : Memref sig .tc .vmem S512x512 .f32) (harg21 : arg21.IsWhole)
    (x0 : Vec F S1x512x512 .bf16) (x1 x2 : Vec F S1x2048x512 .bf16) :
    ∀ (k : ℕ) (arg23 : BitVec 32) (arg24 : BitVec 1), arg23.toInt < 8 → (arg23.toInt + 1).toNat = k →
      ∀ K, spec (Held c arg3 arg4 arg5 arg21 arg22 x0 x1 x2) K
        ⊢ wp frame (wpE (defs₀ (F := F)) 𝒱₀ (c : Thread nD τ) (some k)) E
            (cc0_while2 i arg3 harg3 arg4 harg4 v34 arg22 harg22 arg5 harg5 arg21 harg21 arg23 arg24) K := by
  intro k
  induction k using Nat.strong_induction_on with
  | _ k ih =>
  intro arg23 arg24 h8 hk K
  rw [spec_apply]
  simp only [cc0_while2_eq_skeleton]; unfold cc0_while2_skel
  by_cases ht : Scalar.andi (Scalar.cmpi .sge arg23 0#32) arg24 = 1#1
  · have h0 := nonneg_of_test _ _ ht
    obtain ⟨j, rfl⟩ := word_of_bounds arg23 h0 h8
    have hj := ofNat_toInt j
    have hn := sub_toInt j
    have hchk := chk2_all j
    generalize hw : BitVec.ofNat 32 j.val = a at *
    simp only [ht, ↓reduceIte, k0_part21_eq_skeleton, k0_part22_eq_skeleton, k0_part23_eq_skeleton, k0_part24_eq_skeleton, k0_part25_eq_skeleton]
    unfold Held owns
    iintro ⟨⟨⟨%f0, %hf0, H0⟩, ⟨%f1, %hf1, H1⟩, ⟨%f2, %hf2, H2⟩, ⟨%d3, %f3, -, H3⟩, ⟨%d4, %f4, -, H4⟩⟩, Hk⟩
    subst hf0 hf1 hf2
    sl_exec
    iapply (wp_call_spec 𝒱₀ (c : Thread nD τ) (some k) E (spec (Held c arg3 arg4 arg5 arg21 arg22 _ _ _)) (k - 1)
      (fun u hu => by cases hu; exact (by omega : k - 1 < k))
      (ih (k - 1) (by omega) (Scalar.subi a 1#32) _ (by omega) (by omega)))
    rw [spec_apply]; unfold Held owns
    isplitl [H0 H1 H2 H3 H4]
    · isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists _, _; isplitr
        swap; · iexact H3
        ipureintro; rfl
      iexists _, _; isplitr
      swap; · iexact H4
      ipureintro; rfl
    iintro %r %hr H
    rw [wp_ret]; imodintro
    iapply Hk
    · ipureintro; exact hr
    · iexact H
  · simp only [ht, ↓reduceIte, Prog.pure_eq_ret]
    iintro ⟨H, Hk⟩
    rw [wp_ret]; imodintro
    iapply Hk
    · ipureintro; exact h8
    · iexact H

end Cert.SbIdeal.Hand

end
-- ==== Proof.SbIdealFrame.lean ====
/-
  The run of the call with the first attention, for any number type: the kernel's body at a grid point, the launch, and
  the frame. What the attention's block holds is not followed; the seven blocks of rounded weights are.
-/
module

public import proofs.«01_k».proof.Proof.SbIdealLoop
public import Idealize.ShloMosaic.Lib.Pipeline.ValueKit

@[expose] public section

set_option maxRecDepth 16384

noncomputable section

namespace Cert.SbIdeal.Hand

open Cert.SbIdeal Cert.SbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in a weight's block -/

/-- The rounded block of the weight of window 3. -/
def out_11 (x : Vec F S1x16x2048 .f32) : Vec F S16x2048 .bf16 :=
  View.canon [⟨(Rect.unit (s := S16x2048) ![0, 0] S16x2048.size inb_S16x2048_S16x2048_0_0), k0_pay5 (View.ld x (Rect.unit (s := S1x16x2048) ![0, 0, 0] S1x16x2048.size inb_S1x16x2048_S1x16x2048_0_0_0))⟩]
/-- The one store covers the block. -/
theorem cover_11 (p0 : Vec F S16x2048 .bf16) (y : S16x2048.Idx) :
    ∃ pc ∈ ([⟨(Rect.unit (s := S16x2048) ![0, 0] S16x2048.size inb_S16x2048_S16x2048_0_0), p0⟩] : List (View.Piece (Elt F) S16x2048 .bf16)), y ∈ pc.1.set :=
  View.cover_of_tiled [⟨(Rect.unit (s := S16x2048) ![0, 0] S16x2048.size inb_S16x2048_S16x2048_0_0), p0⟩] S16x2048.size (by rfl) y

/-- The rounded block of the weight of window 4. -/
def out_12 (x : Vec F S1x16x2048 .f32) : Vec F S16x2048 .bf16 :=
  View.canon [⟨(Rect.unit (s := S16x2048) ![0, 0] S16x2048.size inb_S16x2048_S16x2048_0_0), k0_pay6 (View.ld x (Rect.unit (s := S1x16x2048) ![0, 0, 0] S1x16x2048.size inb_S1x16x2048_S1x16x2048_0_0_0))⟩]
/-- The one store covers the block. -/
theorem cover_12 (p0 : Vec F S16x2048 .bf16) (y : S16x2048.Idx) :
    ∃ pc ∈ ([⟨(Rect.unit (s := S16x2048) ![0, 0] S16x2048.size inb_S16x2048_S16x2048_0_0), p0⟩] : List (View.Piece (Elt F) S16x2048 .bf16)), y ∈ pc.1.set :=
  View.cover_of_tiled [⟨(Rect.unit (s := S16x2048) ![0, 0] S16x2048.size inb_S16x2048_S16x2048_0_0), p0⟩] S16x2048.size (by rfl) y

/-- The rounded block of the weight of window 5. -/
def out_13 (x : Vec F S1x32x2048 .f32) : Vec F S32x2048 .bf16 :=
  View.canon [⟨(Rect.unit (s := S32x2048) ![0, 0] S32x2048.size inb_S32x2048_S32x2048_0_0), k0_pay7 (View.ld x (Rect.unit (s := S1x32x2048) ![0, 0, 0] S1x32x2048.size inb_S1x32x2048_S1x32x2048_0_0_0))⟩]
/-- The one store covers the block. -/
theorem cover_13 (p0 : Vec F S32x2048 .bf16) (y : S32x2048.Idx) :
    ∃ pc ∈ ([⟨(Rect.unit (s := S32x2048) ![0, 0] S32x2048.size inb_S32x2048_S32x2048_0_0), p0⟩] : List (View.Piece (Elt F) S32x2048 .bf16)), y ∈ pc.1.set :=
  View.cover_of_tiled [⟨(Rect.unit (s := S32x2048) ![0, 0] S32x2048.size inb_S32x2048_S32x2048_0_0), p0⟩] S32x2048.size (by rfl) y

/-- The rounded block of the weight of window 6. -/
def out_14 (x : Vec F S1x32x11264 .f32) : Vec F S32x11264 .bf16 :=
  View.canon [⟨(Rect.unit (s := S32x11264) ![0, 0] S32x11264.size inb_S32x11264_S32x11264_0_0), k0_pay8 (View.ld x (Rect.unit (s := S1x32x11264) ![0, 0, 0] S1x32x11264.size inb_S1x32x11264_S1x32x11264_0_0_0))⟩]
/-- The one store covers the block. -/
theorem cover_14 (p0 : Vec F S32x11264 .bf16) (y : S32x11264.Idx) :
    ∃ pc ∈ ([⟨(Rect.unit (s := S32x11264) ![0, 0] S32x11264.size inb_S32x11264_S32x11264_0_0), p0⟩] : List (View.Piece (Elt F) S32x11264 .bf16)), y ∈ pc.1.set :=
  View.cover_of_tiled [⟨(Rect.unit (s := S32x11264) ![0, 0] S32x11264.size inb_S32x11264_S32x11264_0_0), p0⟩] S32x11264.size (by rfl) y

/-- The rounded block of the weight of window 7. -/
def out_15 (x : Vec F S1x128x2048 .f32) : Vec F S128x2048 .bf16 :=
  View.canon [⟨(Rect.unit (s := S128x2048) ![0, 0] S128x2048.size inb_S128x2048_S128x2048_0_0), k0_pay9 (View.ld x (Rect.unit (s := S1x128x2048) ![0, 0, 0] S1x128x2048.size inb_S1x128x2048_S1x128x2048_0_0_0))⟩]
/-- The one store covers the block. -/
theorem cover_15 (p0 : Vec F S128x2048 .bf16) (y : S128x2048.Idx) :
    ∃ pc ∈ ([⟨(Rect.unit (s := S128x2048) ![0, 0] S128x2048.size inb_S128x2048_S128x2048_0_0), p0⟩] : List (View.Piece (Elt F) S128x2048 .bf16)), y ∈ pc.1.set :=
  View.cover_of_tiled [⟨(Rect.unit (s := S128x2048) ![0, 0] S128x2048.size inb_S128x2048_S128x2048_0_0), p0⟩] S128x2048.size (by rfl) y

/-- The rounded block of the weight of window 8. -/
def out_16 (x : Vec F S1x32x2048 .f32) : Vec F S32x2048 .bf16 :=
  View.canon [⟨(Rect.unit (s := S32x2048) ![0, 0] S32x2048.size inb_S32x2048_S32x2048_0_0), k0_pay10 (View.ld x (Rect.unit (s := S1x32x2048) ![0, 0, 0] S1x32x2048.size inb_S1x32x2048_S1x32x2048_0_0_0))⟩]
/-- The one store covers the block. -/
theorem cover_16 (p0 : Vec F S32x2048 .bf16) (y : S32x2048.Idx) :
    ∃ pc ∈ ([⟨(Rect.unit (s := S32x2048) ![0, 0] S32x2048.size inb_S32x2048_S32x2048_0_0), p0⟩] : List (View.Piece (Elt F) S32x2048 .bf16)), y ∈ pc.1.set :=
  View.cover_of_tiled [⟨(Rect.unit (s := S32x2048) ![0, 0] S32x2048.size inb_S32x2048_S32x2048_0_0), p0⟩] S32x2048.size (by rfl) y

/-- The rounded block of the weight of window 9. -/
def out_17 (x : Vec F S1x16x2048 .f32) : Vec F S16x2048 .bf16 :=
  View.canon [⟨(Rect.unit (s := S16x2048) ![0, 0] S16x2048.size inb_S16x2048_S16x2048_0_0), k0_pay11 (View.ld x (Rect.unit (s := S1x16x2048) ![0, 0, 0] S1x16x2048.size inb_S1x16x2048_S1x16x2048_0_0_0))⟩]
/-- The one store covers the block. -/
theorem cover_17 (p0 : Vec F S16x2048 .bf16) (y : S16x2048.Idx) :
    ∃ pc ∈ ([⟨(Rect.unit (s := S16x2048) ![0, 0] S16x2048.size inb_S16x2048_S16x2048_0_0), p0⟩] : List (View.Piece (Elt F) S16x2048 .bf16)), y ∈ pc.1.set :=
  View.cover_of_tiled [⟨(Rect.unit (s := S16x2048) ![0, 0] S16x2048.size inb_S16x2048_S16x2048_0_0), p0⟩] S16x2048.size (by rfl) y

/-! ## The body's triple -/

/-- The first loop starts below 8. -/
theorem start_lt : ∀ q : Fin 4, (Scalar.subi (Scalar.muli 2#32 (BitVec.ofNat 32 q.val)) 1#32).toInt < 8 := by decide

set_option maxHeartbeats 8000000 in
/-- The kernel body on whole buffers: the inputs are left as they were, each weight's block rounded, the attention's block
    and the two scratch buffers at something. -/
theorem sound_kernel (c : Dev nD) (E : Set ℕ) (i : grid0.Coords) (arg3 : Memref sig .tc .vmem S1x512x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x16x2048 .f32) (harg6 : arg6.IsWhole) (arg7 : Memref sig .tc .vmem S1x16x2048 .f32) (harg7 : arg7.IsWhole) (arg8 : Memref sig .tc .vmem S1x32x2048 .f32) (harg8 : arg8.IsWhole) (arg9 : Memref sig .tc .vmem S1x32x11264 .f32) (harg9 : arg9.IsWhole) (arg10 : Memref sig .tc .vmem S1x128x2048 .f32) (harg10 : arg10.IsWhole) (arg11 : Memref sig .tc .vmem S1x32x2048 .f32) (harg11 : arg11.IsWhole) (arg12 : Memref sig .tc .vmem S1x16x2048 .f32) (harg12 : arg12.IsWhole) (arg13 : Memref sig .tc .vmem S1x512x512 .bf16) (harg13 : arg13.IsWhole) (arg14 : Memref sig .tc .vmem S16x2048 .bf16) (harg14 : arg14.IsWhole) (arg15 : Memref sig .tc .vmem S16x2048 .bf16) (harg15 : arg15.IsWhole) (arg16 : Memref sig .tc .vmem S32x2048 .bf16) (harg16 : arg16.IsWhole) (arg17 : Memref sig .tc .vmem S32x11264 .bf16) (harg17 : arg17.IsWhole) (arg18 : Memref sig .tc .vmem S128x2048 .bf16) (harg18 : arg18.IsWhole) (arg19 : Memref sig .tc .vmem S32x2048 .bf16) (harg19 : arg19.IsWhole) (arg20 : Memref sig .tc .vmem S16x2048 .bf16) (harg20 : arg20.IsWhole) (arg21 : Memref sig .tc .vmem S512x512 .f32) (harg21 : arg21.IsWhole) (arg22 : Memref sig .tc .vmem S4x512x1 .f32) (harg22 : arg22.IsWhole)
    (x0 : Vec F S1x512x512 .bf16) (x1 : Vec F S1x2048x512 .bf16) (x2 : Vec F S1x2048x512 .bf16) (x3 : Vec F S1x16x2048 .f32) (x4 : Vec F S1x16x2048 .f32) (x5 : Vec F S1x32x2048 .f32) (x6 : Vec F S1x32x11264 .f32) (x7 : Vec F S1x128x2048 .f32) (x8 : Vec F S1x32x2048 .f32) (x9 : Vec F S1x16x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare (out_11 x3) ∗ owns (c : Thread nD τ) arg15 fullShare (out_12 x4) ∗ owns (c : Thread nD τ) arg16 fullShare (out_13 x5) ∗ owns (c : Thread nD τ) arg17 fullShare (out_14 x6) ∗ owns (c : Thread nD τ) arg18 fullShare (out_15 x7) ∗ owns (c : Thread nD τ) arg19 fullShare (out_16 x8) ∗ owns (c : Thread nD τ) arg20 fullShare (out_17 x9) ∗ (∃ d, owns (c : Thread nD τ) arg21 fullShare d) ∗ (∃ d, owns (c : Thread nD τ) arg22 fullShare d)) -∗ K ⟨⟩))
      ⊢ wp frame (wpE (defs₀ (F := F)) 𝒱₀ (c : Thread nD τ) none) E (cc0_sb_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have hstart : (Scalar.subi (Scalar.muli 2#32 (BitVec.ofNat 32 (i 2).val)) 1#32).toInt < 8 := start_lt (i 2)
  simp only [cc0_sb_attention_eq_skeleton]; unfold cc0_sb_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9
  sl_exec
  iapply (wp_call_spec 𝒱₀ (c : Thread nD τ) none E (spec (Held c arg3 arg4 arg5 arg21 arg22 (arg3.view.read (Elt F) f0) (arg4.view.read (Elt F) f1) (arg5.view.read (Elt F) f2))) _
    (fun u hu => nomatch hu)
    (while1_le c E i arg3 harg3 arg4 harg4 _ arg22 harg22 arg5 harg5 arg21 harg21 _ _ _ _ _ _ hstart rfl))
  rw [spec_apply]; unfold Held owns
  isplitl [H0 H1 H2 H18 H19]
  · isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    isplitl [H18]
    · iexists _, _; isplitr
      swap; · iexact H18
      ipureintro; rfl
    iexists _, _; isplitr
    swap; · iexact H19
    ipureintro; rfl

  iintro %r %hr ⟨⟨%g0, %hg0, H0⟩, ⟨%g1, %hg1, H1⟩, ⟨%g2, %hg2, H2⟩, ⟨%e3, %g3, -, H18⟩, ⟨%e4, %g4, -, H19⟩⟩
  sl_exec
  iapply (wp_call_spec 𝒱₀ (c : Thread nD τ) none E (spec (Held c arg3 arg4 arg5 arg21 arg22 (arg3.view.read (Elt F) f0) (arg4.view.read (Elt F) f1) (arg5.view.read (Elt F) f2))) _
    (fun u hu => nomatch hu)
    (while2_le c E i arg3 harg3 arg4 harg4 _ arg22 harg22 arg5 harg5 arg21 harg21 _ _ _ _ _ _ hr rfl))
  rw [spec_apply]; unfold Held owns
  isplitl [H0 H1 H2 H18 H19]
  · isplitl [H0]
    · iexists _; isplitr
      swap; · iexact H0
      ipureintro; exact hg0
    isplitl [H1]
    · iexists _; isplitr
      swap; · iexact H1
      ipureintro; exact hg1
    isplitl [H2]
    · iexists _; isplitr
      swap; · iexact H2
      ipureintro; exact hg2
    isplitl [H18]
    · iexists _, _; isplitr
      swap; · iexact H18
      ipureintro; rfl
    iexists _, _; isplitr
    swap; · iexact H19
    ipureintro; rfl

  iintro %r2 %hr2 ⟨⟨%g5, %hg5, H0⟩, ⟨%g6, %hg6, H1⟩, ⟨%g7, %hg7, H2⟩, ⟨%e5, %g8, -, H18⟩, ⟨%e6, %g9, -, H19⟩⟩
  sl_exec
  sl_step
  iapply Hk
  isplitl [H0]
  · iexists _; isplitr
    swap; · iexact H0
    ipureintro; exact hg5
  isplitl [H1]
  · iexists _; isplitr
    swap; · iexact H1
    ipureintro; exact hg6
  isplitl [H2]
  · iexists _; isplitr
    swap; · iexact H2
    ipureintro; exact hg7
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _, _; isplitr
    swap; · iexact H10
    ipureintro; rfl
  isplitl [H11]
  · iexists _; isplitr
    swap; · iexact H11
    ipureintro
    exact View.read_writes_eq_canon _ _ _ (cover_11 _)
  isplitl [H12]
  · iexists _; isplitr
    swap; · iexact H12
    ipureintro
    exact View.read_writes_eq_canon _ _ _ (cover_12 _)
  isplitl [H13]
  · iexists _; isplitr
    swap; · iexact H13
    ipureintro
    exact View.read_writes_eq_canon _ _ _ (cover_13 _)
  isplitl [H14]
  · iexists _; isplitr
    swap; · iexact H14
    ipureintro
    exact View.read_writes_eq_canon _ _ _ (cover_14 _)
  isplitl [H15]
  · iexists _; isplitr
    swap; · iexact H15
    ipureintro
    exact View.read_writes_eq_canon _ _ _ (cover_15 _)
  isplitl [H16]
  · iexists _; isplitr
    swap; · iexact H16
    ipureintro
    exact View.read_writes_eq_canon _ _ _ (cover_16 _)
  isplitl [H17]
  · iexists _; isplitr
    swap; · iexact H17
    ipureintro
    exact View.read_writes_eq_canon _ _ _ (cover_17 _)
  isplitl [H18]
  · iexists _, _; isplitr
    swap; · iexact H18
    ipureintro; rfl
  iexists _, _; isplitr
  swap; · iexact H19
  ipureintro; rfl
/-! ## The windows' blocks and the proof data -/

/-- The buffers when the region is entered, which is at once. -/
abbrev V (c : Dev nD) (b : Ref sig .tc) : Buf (Elt F) ((c : Thread nD τ).loc b) := m ((c : Thread nD τ).loc b)

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The attention's window is the one whose contents are not followed. -/
abbrev fgt : Fin 18 → Bool := fun | 10 => true | _ => false

/-- The proof data: each input's buffer at its block, each weight's output at the rounded block. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Dat.unnamed 10 t
    | ⟨11, _⟩ => out_11 (iblk m c 3 t)
    | ⟨12, _⟩ => out_12 (iblk m c 4 t)
    | ⟨13, _⟩ => out_13 (iblk m c 5 t)
    | ⟨14, _⟩ => out_14 (iblk m c 6 t)
    | ⟨15, _⟩ => out_15 (iblk m c 7 t)
    | ⟨16, _⟩ => out_16 (iblk m c 8 t)
    | ⟨17, _⟩ => out_17 (iblk m c 9 t)
    | ⟨_ + 18, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after (0 : Fin 18) t = iblk m c 0 t := by dsimp only [dats]
theorem after_1 (c : Dev nD) (t : Fin (cfg0 (F := F)).N) : (dats m 0 c).after (1 : Fin 18) t = iblk m c 1 t := by dsimp only [dats]
theorem after_2 (c : Dev nD) (t : Fin (cfg0 (F := F)).N) : (dats m 0 c).after (2 : Fin 18) t = iblk m c 2 t := by dsimp only [dats]
theorem after_3 (c : Dev nD) (t : Fin (cfg0 (F := F)).N) : (dats m 0 c).after (3 : Fin 18) t = iblk m c 3 t := by dsimp only [dats]
theorem after_4 (c : Dev nD) (t : Fin (cfg0 (F := F)).N) : (dats m 0 c).after (4 : Fin 18) t = iblk m c 4 t := by dsimp only [dats]
theorem after_5 (c : Dev nD) (t : Fin (cfg0 (F := F)).N) : (dats m 0 c).after (5 : Fin 18) t = iblk m c 5 t := by dsimp only [dats]
theorem after_6 (c : Dev nD) (t : Fin (cfg0 (F := F)).N) : (dats m 0 c).after (6 : Fin 18) t = iblk m c 6 t := by dsimp only [dats]
theorem after_7 (c : Dev nD) (t : Fin (cfg0 (F := F)).N) : (dats m 0 c).after (7 : Fin 18) t = iblk m c 7 t := by dsimp only [dats]
theorem after_8 (c : Dev nD) (t : Fin (cfg0 (F := F)).N) : (dats m 0 c).after (8 : Fin 18) t = iblk m c 8 t := by dsimp only [dats]
theorem after_9 (c : Dev nD) (t : Fin (cfg0 (F := F)).N) : (dats m 0 c).after (9 : Fin 18) t = iblk m c 9 t := by dsimp only [dats]
theorem after_11 (c : Dev nD) (t : Fin (cfg0 (F := F)).N) : (dats m 0 c).after (11 : Fin 18) t = out_11 (iblk m c 3 t) := by dsimp only [dats]
theorem after_12 (c : Dev nD) (t : Fin (cfg0 (F := F)).N) : (dats m 0 c).after (12 : Fin 18) t = out_12 (iblk m c 4 t) := by dsimp only [dats]
theorem after_13 (c : Dev nD) (t : Fin (cfg0 (F := F)).N) : (dats m 0 c).after (13 : Fin 18) t = out_13 (iblk m c 5 t) := by dsimp only [dats]
theorem after_14 (c : Dev nD) (t : Fin (cfg0 (F := F)).N) : (dats m 0 c).after (14 : Fin 18) t = out_14 (iblk m c 6 t) := by dsimp only [dats]
theorem after_15 (c : Dev nD) (t : Fin (cfg0 (F := F)).N) : (dats m 0 c).after (15 : Fin 18) t = out_15 (iblk m c 7 t) := by dsimp only [dats]
theorem after_16 (c : Dev nD) (t : Fin (cfg0 (F := F)).N) : (dats m 0 c).after (16 : Fin 18) t = out_16 (iblk m c 8 t) := by dsimp only [dats]
theorem after_17 (c : Dev nD) (t : Fin (cfg0 (F := F)).N) : (dats m 0 c).after (17 : Fin 18) t = out_17 (iblk m c 9 t) := by dsimp only [dats]

/-! Each input's staging buffer holds its block at every point. -/

theorem before_0 (c : Dev nD) (t : Fin (cfg0 (F := F)).N) (d) : (dats m 0 c).before (0 : Fin 18) t d = iblk m c 0 t :=
  ((dats m 0 c).before_in_eq_fetched (0 : Fin 18) rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before (1 : Fin 18) t d = iblk m c 1 t :=
  ((dats m 0 c).before_in_eq_fetched (1 : Fin 18) rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before (2 : Fin 18) t d = iblk m c 2 t :=
  ((dats m 0 c).before_in_eq_fetched (2 : Fin 18) rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before (3 : Fin 18) t d = iblk m c 3 t :=
  ((dats m 0 c).before_in_eq_fetched (3 : Fin 18) rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (F := F)).N) (d) : (dats m 0 c).before (4 : Fin 18) t d = iblk m c 4 t :=
  ((dats m 0 c).before_in_eq_fetched (4 : Fin 18) rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg0 (F := F)).N) (d) : (dats m 0 c).before (5 : Fin 18) t d = iblk m c 5 t :=
  ((dats m 0 c).before_in_eq_fetched (5 : Fin 18) rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg0 (F := F)).N) (d) : (dats m 0 c).before (6 : Fin 18) t d = iblk m c 6 t :=
  ((dats m 0 c).before_in_eq_fetched (6 : Fin 18) rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cfg0 (F := F)).N) (d) : (dats m 0 c).before (7 : Fin 18) t d = iblk m c 7 t :=
  ((dats m 0 c).before_in_eq_fetched (7 : Fin 18) rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin (cfg0 (F := F)).N) (d) : (dats m 0 c).before (8 : Fin 18) t d = iblk m c 8 t :=
  ((dats m 0 c).before_in_eq_fetched (8 : Fin 18) rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin (cfg0 (F := F)).N) (d) : (dats m 0 c).before (9 : Fin 18) t d = iblk m c 9 t :=
  ((dats m 0 c).before_in_eq_fetched (9 : Fin 18) rfl (fun _ => rfl) (fun _ _ _ => rfl) (fun t => by rw [after_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfg0 (F := F)).N) : sProp 𝕄 :=
  iprop((dats m 0 c).Φ t.castSucc
    ∗ (dats m 0 c).owesAt () t.castSucc
    ∗ (∃ d, owns (c : Thread nD τ) (st0_0 t) fullShare ((dats m 0 c).before (0 : Fin 18) t d))
    ∗ (∃ d, owns (c : Thread nD τ) (st0_1 t) fullShare ((dats m 0 c).before (1 : Fin 18) t d))
    ∗ (∃ d, owns (c : Thread nD τ) (st0_2 t) fullShare ((dats m 0 c).before (2 : Fin 18) t d))
    ∗ (∃ d, owns (c : Thread nD τ) (st0_3 t) fullShare ((dats m 0 c).before (3 : Fin 18) t d))
    ∗ (∃ d, owns (c : Thread nD τ) (st0_4 t) fullShare ((dats m 0 c).before (4 : Fin 18) t d))
    ∗ (∃ d, owns (c : Thread nD τ) (st0_5 t) fullShare ((dats m 0 c).before (5 : Fin 18) t d))
    ∗ (∃ d, owns (c : Thread nD τ) (st0_6 t) fullShare ((dats m 0 c).before (6 : Fin 18) t d))
    ∗ (∃ d, owns (c : Thread nD τ) (st0_7 t) fullShare ((dats m 0 c).before (7 : Fin 18) t d))
    ∗ (∃ d, owns (c : Thread nD τ) (st0_8 t) fullShare ((dats m 0 c).before (8 : Fin 18) t d))
    ∗ (∃ d, owns (c : Thread nD τ) (st0_9 t) fullShare ((dats m 0 c).before (9 : Fin 18) t d))
    ∗ (∃ X, owns (c : Thread nD τ) (st0_10 t) fullShare X)
    ∗ (∃ d, owns (c : Thread nD τ) (st0_11 t) fullShare ((dats m 0 c).before (11 : Fin 18) t d))
    ∗ (∃ d, owns (c : Thread nD τ) (st0_12 t) fullShare ((dats m 0 c).before (12 : Fin 18) t d))
    ∗ (∃ d, owns (c : Thread nD τ) (st0_13 t) fullShare ((dats m 0 c).before (13 : Fin 18) t d))
    ∗ (∃ d, owns (c : Thread nD τ) (st0_14 t) fullShare ((dats m 0 c).before (14 : Fin 18) t d))
    ∗ (∃ d, owns (c : Thread nD τ) (st0_15 t) fullShare ((dats m 0 c).before (15 : Fin 18) t d))
    ∗ (∃ d, owns (c : Thread nD τ) (st0_16 t) fullShare ((dats m 0 c).before (16 : Fin 18) t d))
    ∗ (∃ d, owns (c : Thread nD τ) (st0_17 t) fullShare ((dats m 0 c).before (17 : Fin 18) t d)))
/-- and what it returns. -/
def bodyPost (c : Dev nD) (t : Fin (cfg0 (F := F)).N) : sProp 𝕄 :=
  iprop((dats m 0 c).Φ t.succ
    ∗ (dats m 0 c).owesAt () t.succ
    ∗ owns (c : Thread nD τ) (st0_0 t) fullShare ((dats m 0 c).after (0 : Fin 18) t)
    ∗ owns (c : Thread nD τ) (st0_1 t) fullShare ((dats m 0 c).after (1 : Fin 18) t)
    ∗ owns (c : Thread nD τ) (st0_2 t) fullShare ((dats m 0 c).after (2 : Fin 18) t)
    ∗ owns (c : Thread nD τ) (st0_3 t) fullShare ((dats m 0 c).after (3 : Fin 18) t)
    ∗ owns (c : Thread nD τ) (st0_4 t) fullShare ((dats m 0 c).after (4 : Fin 18) t)
    ∗ owns (c : Thread nD τ) (st0_5 t) fullShare ((dats m 0 c).after (5 : Fin 18) t)
    ∗ owns (c : Thread nD τ) (st0_6 t) fullShare ((dats m 0 c).after (6 : Fin 18) t)
    ∗ owns (c : Thread nD τ) (st0_7 t) fullShare ((dats m 0 c).after (7 : Fin 18) t)
    ∗ owns (c : Thread nD τ) (st0_8 t) fullShare ((dats m 0 c).after (8 : Fin 18) t)
    ∗ owns (c : Thread nD τ) (st0_9 t) fullShare ((dats m 0 c).after (9 : Fin 18) t)
    ∗ (∃ X, owns (c : Thread nD τ) (st0_10 t) fullShare X)
    ∗ owns (c : Thread nD τ) (st0_11 t) fullShare ((dats m 0 c).after (11 : Fin 18) t)
    ∗ owns (c : Thread nD τ) (st0_12 t) fullShare ((dats m 0 c).after (12 : Fin 18) t)
    ∗ owns (c : Thread nD τ) (st0_13 t) fullShare ((dats m 0 c).after (13 : Fin 18) t)
    ∗ owns (c : Thread nD τ) (st0_14 t) fullShare ((dats m 0 c).after (14 : Fin 18) t)
    ∗ owns (c : Thread nD τ) (st0_15 t) fullShare ((dats m 0 c).after (15 : Fin 18) t)
    ∗ owns (c : Thread nD τ) (st0_16 t) fullShare ((dats m 0 c).after (16 : Fin 18) t)
    ∗ owns (c : Thread nD τ) (st0_17 t) fullShare ((dats m 0 c).after (17 : Fin 18) t))

set_option maxHeartbeats 2000000 in
/-- The body at any point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_11, after_12, after_13, after_14, after_15, after_16, after_17]
  unfold Pipeline.ΦA
  rw [scopedRest0_eq c]
  iintro ⟨⟨⟨⟨%s0, HS0⟩, ⟨%s1, HS1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]
  · iexists s0; rw [owns_whole_eq]; iexists s0; isplitr; · ipureintro; rfl
    iexact HS0
  isplitl [HS1]
  · iexists s1; rw [owns_whole_eq]; iexists s1; isplitr; · ipureintro; rfl
    iexact HS1
  simp only [owns_whole_eq]
  iintro ⟨H0, H1, H2, H3, H4, H5, H6, H7, H8, H9, H10, H11, H12, H13, H14, H15, H16, H17, ⟨%s2, %s3, -, HS0⟩, ⟨%s4, %s5, -, HS1⟩⟩
  isplitl [HS0 HS1 HR]
  · isplitl [HS0 HS1]
    · isplitl [HS0]
      · iexists s3; iexact HS0
      iexists s5; iexact HS1
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (c : Dev nD) : BodyObligationLoose (dats (F := F) m 0 c) (defs₀ (F := F)) 𝒱₀ () Set.univ fgt := fun t => by
  rw [bigSep_W0, bigSep_W0, defs₀_row]
  exact triple_restated (sound_body m c t) rfl .rfl fun _ => .rfl

/-! ## The run and the frame -/

/-- The program up to the region: there is nothing before it. -/
theorem hmain : Pipeline.HMain (Ix := Unit) (Name := ℕ) (U := UR sig nD τ) (Lvl := ℕ) cfgs 0 defs₀ 𝒱₀ m (main (F := F)) (V m) := fun c Q => by
  simp only [main, Prog.lift, Prog.bind_op, Prog.bind_ret]; iintro ⟨Hk, Hb⟩; iapply Hk; iexact Hb

set_option backward.isDefEq.respectTransparency.types false in
set_option maxHeartbeats 800000 in
/-- The launch: what every array holds at the end, and every semaphore at zero. -/
theorem run_main : θ_run defs (onTc (τ := τ) (main (F := F))) (s₀ m ρ)
    (fun r => Pipeline.RDat.FramePost (cfg0 (F := F)) (fun c => (dats m 0 c).toRForget fgt) (V m) r ∧ r.2.sem = fun _ => 0) :=
  Pipeline.θ_run_frame_track_forget_shared (Q' := _) cfgs (dats m) (0 : Fin 1) launch₀0 defs₀ 𝒱₀ fgt m ρ main
    (hbody := fun c => body_obligation m c) (hq := fun _ _ _ => rfl)
    (howed := fun _ _ => rfl) (V := V m) (hmain := hmain m) (hA := A_eq m) (hin := fun _ => .rfl) (hout := fun _ => .rfl)

/-- The run once more, with what is read of it: the seven arrays of rounded weights as the proof data computes them, the
    arguments as launched, every semaphore at zero. -/
theorem run_read : θ_run defs (onTc (τ := τ) (main (F := F))) (s₀ m ρ) (fun r =>
    (∀ c : Dev nD,
      (∀ w : Fin (cfg0 (F := F)).W, fgt w = false → r.2.mem ((c.tc : Thread nD τ).loc (Pipeline.arrRef spec0 w)) = (dats m 0 c).arrAt w (cfg0 (F := F)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  (θ_run defs _ _).mono (fun r h => ⟨fun c => by
    have hw : ∀ w : Fin (cfg0 (F := F)).W, fgt w = false →
        r.2.mem ((c.tc : Thread nD τ).loc (Pipeline.arrRef spec0 w)) = (dats m 0 c).arrAt w (cfg0 (F := F)).N :=
      fun w hf => ((dats m 0 c).toRForget_arrAt_iff hf _ _).mp ((h.1 c).1 w)
    exact ⟨hw, (hw 0 rfl).trans (((dats m 0 c).arrAt_in (0 : Fin 18) rfl _).trans (A_eq m c 0)), (hw 3 rfl).trans (((dats m 0 c).arrAt_in (3 : Fin 18) rfl _).trans (A_eq m c 3)), (hw 4 rfl).trans (((dats m 0 c).arrAt_in (4 : Fin 18) rfl _).trans (A_eq m c 4)), (hw 5 rfl).trans (((dats m 0 c).arrAt_in (5 : Fin 18) rfl _).trans (A_eq m c 5)), (hw 6 rfl).trans (((dats m 0 c).arrAt_in (6 : Fin 18) rfl _).trans (A_eq m c 6)), (hw 7 rfl).trans (((dats m 0 c).arrAt_in (7 : Fin 18) rfl _).trans (A_eq m c 7)), (hw 8 rfl).trans (((dats m 0 c).arrAt_in (8 : Fin 18) rfl _).trans (A_eq m c 8)), (hw 9 rfl).trans (((dats m 0 c).arrAt_in (9 : Fin 18) rfl _).trans (A_eq m c 9))⟩, h.2⟩) (run_main m ρ)

/-- The call runs and leaves its arguments and the semaphores as they were. -/
theorem run_args : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  (θ_run defs _ _).mono (fun r h => ⟨fun c => (h.1 c).2, h.2⟩) (run_read m ρ)

end Cert.SbIdeal.Hand

end
-- ==== Proof.SbValue.lean ====
/-
  The values of the rounded weights that the call with the first attention leaves, over the real numbers: each of the seven
  arrays is the reference's, which is the weight itself with its leading axis of size one dropped.
-/
module

public import proofs.«01_k».proof.Proof.SbIdealFrame
public import proofs.«01_k».proof.Proof.Gen.SbRefIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SbIdeal.Value

open Cert.SbIdeal Cert.SbIdeal.Gen Cert.SbIdeal.Hand

variable (m : (ℓ : Loc nD τ sig) → Buf (Elt Ideal) ℓ)

/-- The grid's points. -/
abbrev Pt := Fin (cfg0 (F := Ideal)).N

/-- Where each weight's block lies at grid point `t`: the `t`-th rows, or the last rows once the weight is through. -/
theorem blockIndex : ∀ t : Pt,
    win0_3.index t = ![0, t.val, 0]
    ∧ win0_4.index t = ![0, t.val, 0]
    ∧ win0_5.index t = ![0, t.val, 0]
    ∧ win0_6.index t = ![0, t.val, 0]
    ∧ win0_7.index t = ![0, min t.val 43, 0]
    ∧ win0_8.index t = ![0, t.val, 0]
    ∧ win0_9.index t = ![0, min t.val 15, 0]
    ∧ win0_11.index t = ![t.val, 0]
    ∧ win0_12.index t = ![t.val, 0]
    ∧ win0_13.index t = ![t.val, 0]
    ∧ win0_14.index t = ![t.val, 0]
    ∧ win0_15.index t = ![min t.val 43, 0]
    ∧ win0_16.index t = ![t.val, 0]
    ∧ win0_17.index t = ![min t.val 15, 0] :=
  (by decide +kernel : ∀ t : Fin grid0.N, _)

/-! ### The first attention's output weight -/

/-- The row of the weight that row `a` of grid point `t`'s block is. -/
abbrev row_11 (t : Pt) (a : Fin 16) : Fin 1024 :=
  ⟨(t.val) * 16 + a.val, by have : t.val < 64 := t.isLt; have := a.isLt; omega⟩

theorem index_11 (t : Pt) (y : S16x2048.Idx) :
    (((cfg0 (F := Ideal)).win (11 : Fin 18)).blk t).view.emb y = ix2 (row_11 t (y 0)) (y 1) := by
  blk_ext [blockIndex t]

theorem read_11 (c : Dev nD) (t : Pt) (a : Fin 16) (k : Fin 2048) :
    iblk m c (3 : Fin 18) t (ix3 0 a k) = m ((c.tc : Thread nD τ).loc main_arg1) (ix3 0 (row_11 t a) k) := by
  blk_point [iblk, V, blockIndex t]

theorem entry_11 (c : Dev nD) (t : Pt) (a : Fin 16) (k : Fin 2048) :
    k0_pay5 (F := Ideal) (iblk m c (3 : Fin 18) t) (ix2 a k)
      = Cert.SbRefIdeal.Read.val_main_v29 (F := Ideal) (m ((c.tc : Thread nD τ).loc main_arg1)) (ix2 (row_11 t a) k) := by
  pointwise [k0_pay5, Cert.SbRefIdeal.Read.val_main_v29, Cert.SbRefIdeal.Read.val_main_v28]
  simp only [read_11]

/-- The rounded weight that the kernel leaves is the reference's. -/
theorem final_11 (c : Dev nD) : (dats m 0 c).arrAt (11 : Fin 18) (cfg0 (F := Ideal)).N
    = Cert.SbRefIdeal.Read.val_main_v29 (F := Ideal) (m ((c.tc : Thread nD τ).loc main_arg1)) := by
  refine (dats m 0 c).arrAt_eq_of_covers (11 : Fin 18) _ (by decide +kernel) fun t _ y => ?_
  blk_simp
  rw [after_11]
  unfold out_11
  frame_out
  refine Eq.trans ?_ (congrArg (Cert.SbRefIdeal.Read.val_main_v29 (F := Ideal) (m ((c.tc : Thread nD τ).loc main_arg1))) (index_11 t y)).symm
  refine Eq.trans (congrArg _ (eq_ix2 (n0 := 16) (n1 := 2048) y)) ?_
  exact entry_11 m c t (y 0) (y 1)

/-! ### The second attention's output weight -/

/-- The row of the weight that row `a` of grid point `t`'s block is. -/
abbrev row_12 (t : Pt) (a : Fin 16) : Fin 1024 :=
  ⟨(t.val) * 16 + a.val, by have : t.val < 64 := t.isLt; have := a.isLt; omega⟩

theorem index_12 (t : Pt) (y : S16x2048.Idx) :
    (((cfg0 (F := Ideal)).win (12 : Fin 18)).blk t).view.emb y = ix2 (row_12 t (y 0)) (y 1) := by
  blk_ext [blockIndex t]

theorem read_12 (c : Dev nD) (t : Pt) (a : Fin 16) (k : Fin 2048) :
    iblk m c (4 : Fin 18) t (ix3 0 a k) = m ((c.tc : Thread nD τ).loc main_arg2) (ix3 0 (row_12 t a) k) := by
  blk_point [iblk, V, blockIndex t]

theorem entry_12 (c : Dev nD) (t : Pt) (a : Fin 16) (k : Fin 2048) :
    k0_pay6 (F := Ideal) (iblk m c (4 : Fin 18) t) (ix2 a k)
      = Cert.SbRefIdeal.Read.val_main_v31 (F := Ideal) (m ((c.tc : Thread nD τ).loc main_arg2)) (ix2 (row_12 t a) k) := by
  pointwise [k0_pay6, Cert.SbRefIdeal.Read.val_main_v31, Cert.SbRefIdeal.Read.val_main_v30]
  simp only [read_12]

/-- The rounded weight that the kernel leaves is the reference's. -/
theorem final_12 (c : Dev nD) : (dats m 0 c).arrAt (12 : Fin 18) (cfg0 (F := Ideal)).N
    = Cert.SbRefIdeal.Read.val_main_v31 (F := Ideal) (m ((c.tc : Thread nD τ).loc main_arg2)) := by
  refine (dats m 0 c).arrAt_eq_of_covers (12 : Fin 18) _ (by decide +kernel) fun t _ y => ?_
  blk_simp
  rw [after_12]
  unfold out_12
  frame_out
  refine Eq.trans ?_ (congrArg (Cert.SbRefIdeal.Read.val_main_v31 (F := Ideal) (m ((c.tc : Thread nD τ).loc main_arg2))) (index_12 t y)).symm
  refine Eq.trans (congrArg _ (eq_ix2 (n0 := 16) (n1 := 2048) y)) ?_
  exact entry_12 m c t (y 0) (y 1)

/-! ### The mixed rows' output weight -/

/-- The row of the weight that row `a` of grid point `t`'s block is. -/
abbrev row_13 (t : Pt) (a : Fin 32) : Fin 2048 :=
  ⟨(t.val) * 32 + a.val, by have : t.val < 64 := t.isLt; have := a.isLt; omega⟩

theorem index_13 (t : Pt) (y : S32x2048.Idx) :
    (((cfg0 (F := Ideal)).win (13 : Fin 18)).blk t).view.emb y = ix2 (row_13 t (y 0)) (y 1) := by
  blk_ext [blockIndex t]

theorem read_13 (c : Dev nD) (t : Pt) (a : Fin 32) (k : Fin 2048) :
    iblk m c (5 : Fin 18) t (ix3 0 a k) = m ((c.tc : Thread nD τ).loc main_arg3) (ix3 0 (row_13 t a) k) := by
  blk_point [iblk, V, blockIndex t]

theorem entry_13 (c : Dev nD) (t : Pt) (a : Fin 32) (k : Fin 2048) :
    k0_pay7 (F := Ideal) (iblk m c (5 : Fin 18) t) (ix2 a k)
      = Cert.SbRefIdeal.Read.val_main_v33 (F := Ideal) (m ((c.tc : Thread nD τ).loc main_arg3)) (ix2 (row_13 t a) k) := by
  pointwise [k0_pay7, Cert.SbRefIdeal.Read.val_main_v33, Cert.SbRefIdeal.Read.val_main_v32]
  simp only [read_13]

/-- The rounded weight that the kernel leaves is the reference's. -/
theorem final_13 (c : Dev nD) : (dats m 0 c).arrAt (13 : Fin 18) (cfg0 (F := Ideal)).N
    = Cert.SbRefIdeal.Read.val_main_v33 (F := Ideal) (m ((c.tc : Thread nD τ).loc main_arg3)) := by
  refine (dats m 0 c).arrAt_eq_of_covers (13 : Fin 18) _ (by decide +kernel) fun t _ y => ?_
  blk_simp
  rw [after_13]
  unfold out_13
  frame_out
  refine Eq.trans ?_ (congrArg (Cert.SbRefIdeal.Read.val_main_v33 (F := Ideal) (m ((c.tc : Thread nD τ).loc main_arg3))) (index_13 t y)).symm
  refine Eq.trans (congrArg _ (eq_ix2 (n0 := 32) (n1 := 2048) y)) ?_
  exact entry_13 m c t (y 0) (y 1)

/-! ### The feed-forward's input weight -/

/-- The row of the weight that row `a` of grid point `t`'s block is. -/
abbrev row_14 (t : Pt) (a : Fin 32) : Fin 2048 :=
  ⟨(t.val) * 32 + a.val, by have : t.val < 64 := t.isLt; have := a.isLt; omega⟩

theorem index_14 (t : Pt) (y : S32x11264.Idx) :
    (((cfg0 (F := Ideal)).win (14 : Fin 18)).blk t).view.emb y = ix2 (row_14 t (y 0)) (y 1) := by
  blk_ext [blockIndex t]

theorem read_14 (c : Dev nD) (t : Pt) (a : Fin 32) (k : Fin 11264) :
    iblk m c (6 : Fin 18) t (ix3 0 a k) = m ((c.tc : Thread nD τ).loc main_arg4) (ix3 0 (row_14 t a) k) := by
  blk_point [iblk, V, blockIndex t]

theorem entry_14 (c : Dev nD) (t : Pt) (a : Fin 32) (k : Fin 11264) :
    k0_pay8 (F := Ideal) (iblk m c (6 : Fin 18) t) (ix2 a k)
      = Cert.SbRefIdeal.Read.val_main_v35 (F := Ideal) (m ((c.tc : Thread nD τ).loc main_arg4)) (ix2 (row_14 t a) k) := by
  pointwise [k0_pay8, Cert.SbRefIdeal.Read.val_main_v35, Cert.SbRefIdeal.Read.val_main_v34]
  simp only [read_14]

/-- The rounded weight that the kernel leaves is the reference's. -/
theorem final_14 (c : Dev nD) : (dats m 0 c).arrAt (14 : Fin 18) (cfg0 (F := Ideal)).N
    = Cert.SbRefIdeal.Read.val_main_v35 (F := Ideal) (m ((c.tc : Thread nD τ).loc main_arg4)) := by
  refine (dats m 0 c).arrAt_eq_of_covers (14 : Fin 18) _ (by decide +kernel) fun t _ y => ?_
  blk_simp
  rw [after_14]
  unfold out_14
  frame_out
  refine Eq.trans ?_ (congrArg (Cert.SbRefIdeal.Read.val_main_v35 (F := Ideal) (m ((c.tc : Thread nD τ).loc main_arg4))) (index_14 t y)).symm
  refine Eq.trans (congrArg _ (eq_ix2 (n0 := 32) (n1 := 11264) y)) ?_
  exact entry_14 m c t (y 0) (y 1)

/-! ### The feed-forward's output weight -/

/-- The row of the weight that row `a` of grid point `t`'s block is. -/
abbrev row_15 (t : Pt) (a : Fin 128) : Fin 5632 :=
  ⟨(min t.val 43) * 128 + a.val, by have : t.val < 64 := t.isLt; have := a.isLt; omega⟩

theorem index_15 (t : Pt) (y : S128x2048.Idx) :
    (((cfg0 (F := Ideal)).win (15 : Fin 18)).blk t).view.emb y = ix2 (row_15 t (y 0)) (y 1) := by
  blk_ext [blockIndex t]

theorem read_15 (c : Dev nD) (t : Pt) (a : Fin 128) (k : Fin 2048) :
    iblk m c (7 : Fin 18) t (ix3 0 a k) = m ((c.tc : Thread nD τ).loc main_arg5) (ix3 0 (row_15 t a) k) := by
  blk_point [iblk, V, blockIndex t]

theorem entry_15 (c : Dev nD) (t : Pt) (a : Fin 128) (k : Fin 2048) :
    k0_pay9 (F := Ideal) (iblk m c (7 : Fin 18) t) (ix2 a k)
      = Cert.SbRefIdeal.Read.val_main_v37 (F := Ideal) (m ((c.tc : Thread nD τ).loc main_arg5)) (ix2 (row_15 t a) k) := by
  pointwise [k0_pay9, Cert.SbRefIdeal.Read.val_main_v37, Cert.SbRefIdeal.Read.val_main_v36]
  simp only [read_15]

/-- The rounded weight that the kernel leaves is the reference's. -/
theorem final_15 (c : Dev nD) : (dats m 0 c).arrAt (15 : Fin 18) (cfg0 (F := Ideal)).N
    = Cert.SbRefIdeal.Read.val_main_v37 (F := Ideal) (m ((c.tc : Thread nD τ).loc main_arg5)) := by
  refine (dats m 0 c).arrAt_eq_of_covers (15 : Fin 18) _ (by decide +kernel) fun t _ y => ?_
  blk_simp
  rw [after_15]
  unfold out_15
  frame_out
  refine Eq.trans ?_ (congrArg (Cert.SbRefIdeal.Read.val_main_v37 (F := Ideal) (m ((c.tc : Thread nD τ).loc main_arg5))) (index_15 t y)).symm
  refine Eq.trans (congrArg _ (eq_ix2 (n0 := 128) (n1 := 2048) y)) ?_
  exact entry_15 m c t (y 0) (y 1)

/-! ### The embedding's gate weight -/

/-- The row of the weight that row `a` of grid point `t`'s block is. -/
abbrev row_16 (t : Pt) (a : Fin 32) : Fin 2048 :=
  ⟨(t.val) * 32 + a.val, by have : t.val < 64 := t.isLt; have := a.isLt; omega⟩

theorem index_16 (t : Pt) (y : S32x2048.Idx) :
    (((cfg0 (F := Ideal)).win (16 : Fin 18)).blk t).view.emb y = ix2 (row_16 t (y 0)) (y 1) := by
  blk_ext [blockIndex t]

theorem read_16 (c : Dev nD) (t : Pt) (a : Fin 32) (k : Fin 2048) :
    iblk m c (8 : Fin 18) t (ix3 0 a k) = m ((c.tc : Thread nD τ).loc main_arg6) (ix3 0 (row_16 t a) k) := by
  blk_point [iblk, V, blockIndex t]

theorem entry_16 (c : Dev nD) (t : Pt) (a : Fin 32) (k : Fin 2048) :
    k0_pay10 (F := Ideal) (iblk m c (8 : Fin 18) t) (ix2 a k)
      = Cert.SbRefIdeal.Read.val_main_v39 (F := Ideal) (m ((c.tc : Thread nD τ).loc main_arg6)) (ix2 (row_16 t a) k) := by
  pointwise [k0_pay10, Cert.SbRefIdeal.Read.val_main_v39, Cert.SbRefIdeal.Read.val_main_v38]
  simp only [read_16]

/-- The rounded weight that the kernel leaves is the reference's. -/
theorem final_16 (c : Dev nD) : (dats m 0 c).arrAt (16 : Fin 18) (cfg0 (F := Ideal)).N
    = Cert.SbRefIdeal.Read.val_main_v39 (F := Ideal) (m ((c.tc : Thread nD τ).loc main_arg6)) := by
  refine (dats m 0 c).arrAt_eq_of_covers (16 : Fin 18) _ (by decide +kernel) fun t _ y => ?_
  blk_simp
  rw [after_16]
  unfold out_16
  frame_out
  refine Eq.trans ?_ (congrArg (Cert.SbRefIdeal.Read.val_main_v39 (F := Ideal) (m ((c.tc : Thread nD τ).loc main_arg6))) (index_16 t y)).symm
  refine Eq.trans (congrArg _ (eq_ix2 (n0 := 32) (n1 := 2048) y)) ?_
  exact entry_16 m c t (y 0) (y 1)

/-! ### The embedding's input weight -/

/-- The row of the weight that row `a` of grid point `t`'s block is. -/
abbrev row_17 (t : Pt) (a : Fin 16) : Fin 256 :=
  ⟨(min t.val 15) * 16 + a.val, by have : t.val < 64 := t.isLt; have := a.isLt; omega⟩

theorem index_17 (t : Pt) (y : S16x2048.Idx) :
    (((cfg0 (F := Ideal)).win (17 : Fin 18)).blk t).view.emb y = ix2 (row_17 t (y 0)) (y 1) := by
  blk_ext [blockIndex t]

theorem read_17 (c : Dev nD) (t : Pt) (a : Fin 16) (k : Fin 2048) :
    iblk m c (9 : Fin 18) t (ix3 0 a k) = m ((c.tc : Thread nD τ).loc main_arg7) (ix3 0 (row_17 t a) k) := by
  blk_point [iblk, V, blockIndex t]

theorem entry_17 (c : Dev nD) (t : Pt) (a : Fin 16) (k : Fin 2048) :
    k0_pay11 (F := Ideal) (iblk m c (9 : Fin 18) t) (ix2 a k)
      = Cert.SbRefIdeal.Read.val_main_v41 (F := Ideal) (m ((c.tc : Thread nD τ).loc main_arg7)) (ix2 (row_17 t a) k) := by
  pointwise [k0_pay11, Cert.SbRefIdeal.Read.val_main_v41, Cert.SbRefIdeal.Read.val_main_v40]
  simp only [read_17]

/-- The rounded weight that the kernel leaves is the reference's. -/
theorem final_17 (c : Dev nD) : (dats m 0 c).arrAt (17 : Fin 18) (cfg0 (F := Ideal)).N
    = Cert.SbRefIdeal.Read.val_main_v41 (F := Ideal) (m ((c.tc : Thread nD τ).loc main_arg7)) := by
  refine (dats m 0 c).arrAt_eq_of_covers (17 : Fin 18) _ (by decide +kernel) fun t _ y => ?_
  blk_simp
  rw [after_17]
  unfold out_17
  frame_out
  refine Eq.trans ?_ (congrArg (Cert.SbRefIdeal.Read.val_main_v41 (F := Ideal) (m ((c.tc : Thread nD τ).loc main_arg7))) (index_17 t y)).symm
  refine Eq.trans (congrArg _ (eq_ix2 (n0 := 16) (n1 := 2048) y)) ?_
  exact entry_17 m c t (y 0) (y 1)

/-- The call leaves the seven rounded weights of the reference, and its arguments as they were. -/
theorem run_weights (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_1) = Cert.SbRefIdeal.Read.val_main_v29 (F := Ideal) (m ((c.tc : Thread nD τ).loc main_arg1))
      ∧ r.2.mem ((c.tc : Thread nD τ).loc main_v0_2) = Cert.SbRefIdeal.Read.val_main_v31 (F := Ideal) (m ((c.tc : Thread nD τ).loc main_arg2))
      ∧ r.2.mem ((c.tc : Thread nD τ).loc main_v0_3) = Cert.SbRefIdeal.Read.val_main_v33 (F := Ideal) (m ((c.tc : Thread nD τ).loc main_arg3))
      ∧ r.2.mem ((c.tc : Thread nD τ).loc main_v0_4) = Cert.SbRefIdeal.Read.val_main_v35 (F := Ideal) (m ((c.tc : Thread nD τ).loc main_arg4))
      ∧ r.2.mem ((c.tc : Thread nD τ).loc main_v0_5) = Cert.SbRefIdeal.Read.val_main_v37 (F := Ideal) (m ((c.tc : Thread nD τ).loc main_arg5))
      ∧ r.2.mem ((c.tc : Thread nD τ).loc main_v0_6) = Cert.SbRefIdeal.Read.val_main_v39 (F := Ideal) (m ((c.tc : Thread nD τ).loc main_arg6))
      ∧ r.2.mem ((c.tc : Thread nD τ).loc main_v0_7) = Cert.SbRefIdeal.Read.val_main_v41 (F := Ideal) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c => ⟨((h.1 c).1 (11 : Fin 18) rfl).trans (final_11 m c),
      ((h.1 c).1 (12 : Fin 18) rfl).trans (final_12 m c),
      ((h.1 c).1 (13 : Fin 18) rfl).trans (final_13 m c),
      ((h.1 c).1 (14 : Fin 18) rfl).trans (final_14 m c),
      ((h.1 c).1 (15 : Fin 18) rfl).trans (final_15 m c),
      ((h.1 c).1 (16 : Fin 18) rfl).trans (final_16 m c),
      ((h.1 c).1 (17 : Fin 18) rfl).trans (final_17 m c), (h.1 c).2⟩) (run_read m ρ)

end Cert.SbIdeal.Value

end
-- ==== Proof.lean ====
/-
  The claim: each call of the layer that is stated in the statement runs without fault, leaves its arguments and every semaphore
  as they were, and, over the real numbers, leaves the values of its plain reference.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.InProjValue
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.FfnValue
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.MixValue
public import proofs.«01_k».proof.Proof.Gen.Ple.Frame
public import proofs.«01_k».proof.Proof.Gen.PleIdeal.Frame
public import proofs.«01_k».proof.Proof.Gen.PleRefIdeal.Run
public import proofs.«01_k».proof.Proof.Gen.PleRefIdeal.Read
public import proofs.«01_k».proof.Proof.PleValue
public import proofs.«01_k».proof.Proof.Gen.Ca.Frame
public import proofs.«01_k».proof.Proof.Gen.CaIdeal.Frame
public import proofs.«01_k».proof.Proof.Gen.CaRefIdeal.Run
public import proofs.«01_k».proof.Proof.Gen.CaRefIdeal.Read
public import proofs.«01_k».proof.Proof.CaValue
public import proofs.«01_k».proof.Proof.Gen.Sb
public import proofs.«01_k».proof.Proof.Gen.SbIdeal
public import proofs.«01_k».proof.Proof.Gen.SbRefIdeal.Run
public import proofs.«01_k».proof.Proof.Gen.SbRefIdeal.Read
public import proofs.«01_k».proof.Proof.SbFrame
public import proofs.«01_k».proof.Proof.SbValue
public import Idealize.ShloMosaic.Lib.Claim
public import Idealize.ShloMosaic.Adequacy
public import Idealize.ShloMosaic.Init

@[expose] public section

noncomputable section

namespace Cert.Proof

open Idealize.ShloMosaic Idealize.SL.Sem

/-! ## The projection -/

/-- The kernel's call, at the machine's numbers, runs and leaves its arguments and the semaphores as they were. -/
theorem frame_InProj : Cert.quiescent_InProj := fun m g _ => Cert.InProj.Gen.frame m g

/-- The same over the real numbers. -/
theorem frame_InProjIdeal : Cert.quiescent_InProjIdeal := fun m g _ => Cert.InProjIdeal.Gen.frame m g

/-- The reference runs and leaves its arguments and the semaphores as they were. -/
theorem frame_InProjRefIdeal : Cert.quiescent_InProjRefIdeal := fun m g _ =>
  (θ_run _ _ _).mono (fun r h => ⟨fun c => (h c).2, sem_eq_zero_of_no_sems rfl r.2⟩)
    (Cert.InProjRefIdeal.Value.run m g)

/-- Over the real numbers the kernel's program is the same text. -/
theorem preserves_InProj : Cert.preserves_InProj_InProjIdeal := trivial

set_option maxRecDepth 8000 in
set_option maxHeartbeats 1600000 in
/-- Over the real numbers the kernel's call and its reference leave the same values on the same arguments. -/
theorem algebraic_InProj : Cert.algebraic_InProjIdeal_InProjRefIdeal := by
  pair_intro
  · run_from Cert.InProjIdeal.Gen.run_main m g
    all_goals
      simp only [Cert.InProjIdeal.Gen.hostOps0, Cert.InProjIdeal.Gen.hostOps0_1, Cert.InProjIdeal.Gen.hostOps0_2,
        List.flatten_cons, List.flatten_nil, List.cons_append, List.nil_append]
      after_results
  · run_from Cert.InProjRefIdeal.Value.run m' g'
    · obtain ⟨e0, e1, e2⟩ := hagree c
      refine Eq.trans ?_ (Cert.InProjIdeal.Value.final m c).symm
      rw [Cert.InProjRefIdeal.Read.val_main_v26_eq, e0, e1, e2]

/-! ## The feed-forward -/

/-- The kernel's call, at the machine's numbers, runs and leaves its arguments and the semaphores as they were. -/
theorem frame_Ffn : Cert.quiescent_Ffn := fun m g _ => Cert.Ffn.Gen.frame m g

/-- The same over the real numbers. -/
theorem frame_FfnIdeal : Cert.quiescent_FfnIdeal := fun m g _ => Cert.FfnIdeal.Gen.frame m g

/-- The reference runs and leaves its arguments and the semaphores as they were. -/
theorem frame_FfnRefIdeal : Cert.quiescent_FfnRefIdeal := fun m g _ =>
  (θ_run _ _ _).mono (fun r h => ⟨fun c => (h c).2, sem_eq_zero_of_no_sems rfl r.2⟩)
    (Cert.FfnRefIdeal.Value.run m g)

/-- Over the real numbers the kernel's program is the same text. -/
theorem preserves_Ffn : Cert.preserves_Ffn_FfnIdeal := trivial

set_option maxRecDepth 8000 in
set_option maxHeartbeats 1600000 in
/-- Over the real numbers the kernel's call and its reference leave the same values on the same arguments. -/
theorem algebraic_Ffn : Cert.algebraic_FfnIdeal_FfnRefIdeal := by
  pair_intro
  · run_from Cert.FfnIdeal.Gen.run_main m g
  · run_from Cert.FfnRefIdeal.Value.run m' g'
    · exact (Cert.FfnRefIdeal.Read.val_main_v8_eq ..).trans (Cert.FfnIdeal.Value.final m c).symm

/-! ## The joining of the attentions and the gates -/

/-- The kernel's call, at the machine's numbers, runs and leaves its arguments and the semaphores as they were. -/
theorem frame_Mix : Cert.quiescent_Mix := fun m g _ => Cert.Mix.Gen.frame m g

/-- The same over the real numbers. -/
theorem frame_MixIdeal : Cert.quiescent_MixIdeal := fun m g _ => Cert.MixIdeal.Gen.frame m g

/-- The reference runs and leaves its arguments and the semaphores as they were. -/
theorem frame_MixRefIdeal : Cert.quiescent_MixRefIdeal := fun m g _ =>
  (θ_run _ _ _).mono (fun r h => ⟨fun c => (h c).2.2, sem_eq_zero_of_no_sems rfl r.2⟩)
    (Cert.MixRefIdeal.Value.run m g)

/-- Over the real numbers the kernel's program is the same text. -/
theorem preserves_Mix : Cert.preserves_Mix_MixIdeal := trivial

set_option maxRecDepth 8000 in
set_option maxHeartbeats 1600000 in
/-- Over the real numbers the kernel's call and its reference leave the same values on the same arguments. -/
theorem algebraic_Mix : Cert.algebraic_MixIdeal_MixRefIdeal := by
  pair_intro
  · run_from Cert.MixIdeal.Gen.run_main m g
  · run_from Cert.MixRefIdeal.Value.run m' g'
    · obtain ⟨e0, e1, e2, e3, e4, e5, e6, e7⟩ := hagree c
      refine Eq.trans ?_ (Cert.MixIdeal.Value.final_residual m c).symm
      rw [Cert.MixRefIdeal.Read.val_main_v27_eq]
    · obtain ⟨e0, e1, e2, e3, e4, e5, e6, e7⟩ := hagree c
      refine Eq.trans ?_ (Cert.MixIdeal.Value.final_normed m c).symm
      rw [Cert.MixRefIdeal.Read.val_main_v42_eq, e0, e1, e2, e3, e4, e5, e6, e7]

/-! ## The per-layer embedding and the final normalization -/

/-- The kernel's call, at the machine's numbers, runs and leaves its arguments and the semaphores as they were. -/
theorem frame_Ple : Cert.quiescent_Ple := fun m g _ => Cert.Ple.Gen.frame m g

/-- The same over the real numbers. -/
theorem frame_PleIdeal : Cert.quiescent_PleIdeal := fun m g _ => Cert.PleIdeal.Gen.frame m g

/-- The reference runs and leaves its arguments and the semaphores as they were. -/
theorem frame_PleRefIdeal : Cert.quiescent_PleRefIdeal := fun m g _ =>
  (θ_run _ _ _).mono (fun r h => ⟨fun c => (h c).2, sem_eq_zero_of_no_sems rfl r.2⟩)
    (Cert.PleRefIdeal.Value.run m g)

/-- Over the real numbers the kernel's program is the same text. -/
theorem preserves_Ple : Cert.preserves_Ple_PleIdeal := trivial

set_option maxRecDepth 8000 in
set_option maxHeartbeats 1600000 in
/-- Over the real numbers the kernel's call and its reference leave the same values on the same arguments. -/
theorem algebraic_Ple : Cert.algebraic_PleIdeal_PleRefIdeal := by
  pair_intro
  · run_from Cert.PleIdeal.Gen.run_main m g
    · exact Cert.PleIdeal.Gen.W_main_arg3 m (Cert.PleIdeal.Gen.dats m) c
    · exact Cert.PleIdeal.Gen.W_main_arg4 m (Cert.PleIdeal.Gen.dats m) c
  · run_from Cert.PleRefIdeal.Value.run m' g'
    · obtain ⟨e0, e1, e2, e3, e4, e5, e6⟩ := hagree c
      refine Eq.trans ?_ (Cert.PleIdeal.Value.final_reshaped m c).symm
      rw [Cert.PleRefIdeal.Read.val_main_v42_eq, e0, e1, e2, e3, e4, e5, e6]
      rfl

/-! ## The chunked attention -/

/-- The kernel's call, at the machine's numbers, runs and leaves its arguments and the semaphores as they were. -/
theorem frame_Ca : Cert.quiescent_Ca := fun m g _ => Cert.Ca.Gen.frame m g

/-- The same over the real numbers. -/
theorem frame_CaIdeal : Cert.quiescent_CaIdeal := fun m g _ => Cert.CaIdeal.Gen.frame m g

/-- Over the real numbers the kernel's program is the same text. -/
theorem preserves_Ca : Cert.preserves_Ca_CaIdeal := trivial

/-- The same on finite arguments. -/
theorem frame_CaIdeal_finite [hP : Cert.Pre_finite.Facts] : Cert.quiescent_CaIdeal_pre_finite := fun m g _ => Cert.CaIdeal.Gen.frame m g

/-- The reference runs and leaves its arguments and the semaphores as they were. -/
theorem frame_CaRefIdeal : Cert.quiescent_CaRefIdeal := fun m g _ =>
  (θ_run _ _ _).mono (fun r h => ⟨fun c => (h c).2, sem_eq_zero_of_no_sems rfl r.2⟩)
    (Cert.CaRefIdeal.Value.run m g)

/-- The same on finite arguments. -/
theorem frame_CaRefIdeal_finite [hP : Cert.Pre_finite.Facts] : Cert.quiescent_CaRefIdeal_pre_finite := fun m g _ => frame_CaRefIdeal m g trivial

set_option maxRecDepth 8000 in
set_option maxHeartbeats 1600000 in
/-- Over the real numbers, on finite arguments, the kernel's call and its reference leave the same values. -/
theorem algebraic_Ca [hP : Cert.Pre_finite.Facts] : Cert.algebraic_CaIdeal_CaRefIdeal_pre_finite := by
  pair_intro
  · run_from Cert.CaIdeal.Gen.run_main m g
    all_goals
      simp only [Cert.CaIdeal.Gen.hostOps0, Cert.CaIdeal.Gen.hostOps0_1, Cert.CaIdeal.Gen.hostOps0_2,
        Cert.CaIdeal.Gen.hostOps0_3, Cert.CaIdeal.Gen.hostOps0_4, Cert.CaIdeal.Gen.hostOps0_5,
        List.flatten_cons, List.flatten_nil, List.cons_append, List.nil_append]
      after_results
  · run_from Cert.CaRefIdeal.Value.run m' g'
    · obtain ⟨e0, e1⟩ := hagree c
      refine Eq.trans ?_ (Cert.CaIdeal.Value.final (Cert.CaIdeal.Value.finite_of_pre c (hpre c).1 (hpre c).2)).symm
      rw [Cert.CaRefIdeal.Read.val_main_v56_eq, e0, e1]

/-! ## The first attention -/

/-- The kernel's call, at the machine's numbers, runs and leaves its arguments and the semaphores as they were. -/
theorem frame_Sb : Cert.quiescent_Sb := fun m g _ => Cert.Sb.Hand.run_args (F := Bits) m g

/-- The same over the real numbers. -/
theorem frame_SbIdeal : Cert.quiescent_SbIdeal := fun m g _ => Cert.SbIdeal.Hand.run_args (F := Ideal) m g

/-- The reference runs and leaves its arguments and the semaphores as they were. -/
theorem frame_SbRefIdeal : Cert.quiescent_SbRefIdeal := fun m g _ =>
  (θ_run _ _ _).mono (fun r h => ⟨fun c => (h c).2.2.2.2.2.2.2.2, sem_eq_zero_of_no_sems rfl r.2⟩)
    (Cert.SbRefIdeal.Value.run m g)

/-- Over the real numbers the kernel's program is the same text. -/
theorem preserves_Sb : Cert.preserves_Sb_SbIdeal := trivial

/-- The mask's broadcasts are in order. -/
theorem facts_mask : Cert.On_weights_only.Facts :=
  ⟨by decide, by decide, by decide, by decide, by decide, by decide⟩

set_option maxRecDepth 16384 in
set_option maxHeartbeats 1600000 in
/-- Over the real numbers the call and its reference leave the same rounded weights. The mask selects nothing of the attention's
    own result. -/
theorem algebraic_Sb [hM : Cert.On_weights_only.Facts] : Cert.algebraic_SbIdeal_SbRefIdeal_on_weights_only := by
  intro m g m' g' hpre hagree
  refine ⟨fun c => m ((c.tc : Thread Cert.SbIdeal.nD Cert.SbIdeal.τ).loc Cert.SbIdeal.main_v0_0), fun c => Cert.SbRefIdeal.Read.val_main_v29 (F := Ideal) (m ((c.tc : Thread Cert.SbIdeal.nD Cert.SbIdeal.τ).loc Cert.SbIdeal.main_arg1)),
    fun c => Cert.SbRefIdeal.Read.val_main_v31 (F := Ideal) (m ((c.tc : Thread Cert.SbIdeal.nD Cert.SbIdeal.τ).loc Cert.SbIdeal.main_arg2)),
    fun c => Cert.SbRefIdeal.Read.val_main_v33 (F := Ideal) (m ((c.tc : Thread Cert.SbIdeal.nD Cert.SbIdeal.τ).loc Cert.SbIdeal.main_arg3)),
    fun c => Cert.SbRefIdeal.Read.val_main_v35 (F := Ideal) (m ((c.tc : Thread Cert.SbIdeal.nD Cert.SbIdeal.τ).loc Cert.SbIdeal.main_arg4)),
    fun c => Cert.SbRefIdeal.Read.val_main_v37 (F := Ideal) (m ((c.tc : Thread Cert.SbIdeal.nD Cert.SbIdeal.τ).loc Cert.SbIdeal.main_arg5)),
    fun c => Cert.SbRefIdeal.Read.val_main_v39 (F := Ideal) (m ((c.tc : Thread Cert.SbIdeal.nD Cert.SbIdeal.τ).loc Cert.SbIdeal.main_arg6)),
    fun c => Cert.SbRefIdeal.Read.val_main_v41 (F := Ideal) (m ((c.tc : Thread Cert.SbIdeal.nD Cert.SbIdeal.τ).loc Cert.SbIdeal.main_arg7)), ?_, ?_⟩
  · refine (θ_run _ _ _).mono (fun r h c => ?_) (Cert.SbIdeal.Value.run_weights m g)
    obtain ⟨h1, h2, h3, h4, h5, h6, h7, ha⟩ := h c
    exact ⟨fun _ hi => absurd (show (0#1 : BitVec 1) = 1#1 from hi) (by decide), fun i _ => congrFun h1 i, fun i _ => congrFun h2 i, fun i _ => congrFun h3 i, fun i _ => congrFun h4 i, fun i _ => congrFun h5 i, fun i _ => congrFun h6 i, fun i _ => congrFun h7 i, ha⟩
  · refine (θ_run _ _ _).mono (fun r h c => ?_) (Cert.SbRefIdeal.Value.run m' g')
    obtain ⟨_, h1, h2, h3, h4, h5, h6, h7, ha⟩ := h c
    obtain ⟨e0, e1, e2, e3, e4, e5, e6, e7⟩ := hagree c
    exact ⟨fun _ hi => absurd (show (0#1 : BitVec 1) = 1#1 from hi) (by decide),
      fun i _ => congrFun (h1.trans ((Cert.SbRefIdeal.Read.val_main_v29_eq _).trans
        (congrArg (Cert.SbRefIdeal.Read.val_main_v29 (F := Ideal)) e1))) i,
      fun i _ => congrFun (h2.trans ((Cert.SbRefIdeal.Read.val_main_v31_eq _).trans
        (congrArg (Cert.SbRefIdeal.Read.val_main_v31 (F := Ideal)) e2))) i,
      fun i _ => congrFun (h3.trans ((Cert.SbRefIdeal.Read.val_main_v33_eq _).trans
        (congrArg (Cert.SbRefIdeal.Read.val_main_v33 (F := Ideal)) e3))) i,
      fun i _ => congrFun (h4.trans ((Cert.SbRefIdeal.Read.val_main_v35_eq _).trans
        (congrArg (Cert.SbRefIdeal.Read.val_main_v35 (F := Ideal)) e4))) i,
      fun i _ => congrFun (h5.trans ((Cert.SbRefIdeal.Read.val_main_v37_eq _).trans
        (congrArg (Cert.SbRefIdeal.Read.val_main_v37 (F := Ideal)) e5))) i,
      fun i _ => congrFun (h6.trans ((Cert.SbRefIdeal.Read.val_main_v39_eq _).trans
        (congrArg (Cert.SbRefIdeal.Read.val_main_v39 (F := Ideal)) e6))) i,
      fun i _ => congrFun (h7.trans ((Cert.SbRefIdeal.Read.val_main_v41_eq _).trans
        (congrArg (Cert.SbRefIdeal.Read.val_main_v41 (F := Ideal)) e7))) i, ha⟩

/-- Every statement of the statement. -/
theorem claim : Cert.Claim :=
  ⟨Cert.InProj.Gen.facts, Cert.InProjIdeal.Gen.facts, Cert.InProjRefIdeal.Gen.facts, Cert.Ffn.Gen.facts,
    Cert.FfnIdeal.Gen.facts, Cert.FfnRefIdeal.Gen.facts, Cert.Mix.Gen.facts, Cert.MixIdeal.Gen.facts,
    Cert.MixRefIdeal.Gen.facts, Cert.Ple.Gen.facts, Cert.PleIdeal.Gen.facts, Cert.PleRefIdeal.Gen.facts,
    Cert.Ca.Gen.facts, Cert.CaIdeal.Gen.facts, Cert.CaRefIdeal.Gen.facts,
    Cert.Sb.Gen.facts, Cert.SbIdeal.Gen.facts, Cert.SbRefIdeal.Gen.facts, Cert.CaIdeal.Value.facts, facts_mask, frame_InProj,
    frame_InProjIdeal, frame_InProjRefIdeal, frame_Ffn,
    frame_FfnIdeal, frame_FfnRefIdeal, frame_Mix, frame_MixIdeal, frame_MixRefIdeal, frame_Ple, frame_PleIdeal,
    frame_PleRefIdeal, frame_Ca, frame_CaIdeal, frame_CaIdeal_finite (hP := Cert.CaIdeal.Value.facts), frame_CaRefIdeal, frame_CaRefIdeal_finite (hP := Cert.CaIdeal.Value.facts),
    frame_Sb, frame_SbIdeal, frame_SbRefIdeal,
    preserves_InProj, algebraic_InProj, preserves_Ffn, algebraic_Ffn,
    preserves_Mix, algebraic_Mix, preserves_Ple, algebraic_Ple, preserves_Ca, algebraic_Ca (hP := Cert.CaIdeal.Value.facts),
    preserves_Sb, algebraic_Sb (hM := facts_mask)⟩

end Cert.Proof

end
